-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_separated.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_separated.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S512x15 : Shape := ⟨2, ![512, 15]⟩
abbrev S15 : Shape := ⟨1, ![15]⟩
abbrev S1x1x15 : Shape := ⟨3, ![1, 1, 15]⟩
abbrev S16 : Shape := ⟨1, ![16]⟩
abbrev S1x16x1 : Shape := ⟨3, ![1, 16, 1]⟩
abbrev S1x16x15 : Shape := ⟨3, ![1, 16, 15]⟩
abbrev S512x1x15 : Shape := ⟨3, ![512, 1, 15]⟩
abbrev S512x16x15 : Shape := ⟨3, ![512, 16, 15]⟩
abbrev S512x1x2x8x4x128 : Shape := ⟨6, ![512, 1, 2, 8, 4, 128]⟩
abbrev S512x16x1x1x1x1 : Shape := ⟨6, ![512, 16, 1, 1, 1, 1]⟩
abbrev S512x16x2x8x4x128 : Shape := ⟨6, ![512, 16, 2, 8, 4, 128]⟩
abbrev S512x16x2x8x128 : Shape := ⟨5, ![512, 16, 2, 8, 128]⟩
abbrev S512x16x2x128 : Shape := ⟨4, ![512, 16, 2, 128]⟩

class Facts : Prop where
  slices_S512x8192_S512x16_0_0 : S512x8192.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  slices_S512x16_S512x15_0_0 : S512x16.Slices ![0, 0] S512x15
  slices_S512x16_S512x15_0_1 : S512x16.Slices ![0, 1] S512x15
  bcast_S15_S1x1x15_2 : S15.BroadcastsInDim S1x1x15 (![2] : Fin 1 → Fin S1x1x15.rank)
  bcast_S16_S1x16x1_1 : S16.BroadcastsInDim S1x16x1 (![1] : Fin 1 → Fin S1x16x1.rank)
  bcast_S1x1x15_S1x16x15_0_1_2 : S1x1x15.BroadcastsInDim S1x16x15 (![0, 1, 2] : Fin 3 → Fin S1x16x15.rank)
  bcast_S1x16x1_S1x16x15_0_1_2 : S1x16x1.BroadcastsInDim S1x16x15 (![0, 1, 2] : Fin 3 → Fin S1x16x15.rank)
  bcast_S512x15_S512x1x15_0_2 : S512x15.BroadcastsInDim S512x1x15 (![0, 2] : Fin 2 → Fin S512x1x15.rank)
  bcast_S512x1x15_S512x16x15_0_1_2 : S512x1x15.BroadcastsInDim S512x16x15 (![0, 1, 2] : Fin 3 → Fin S512x16x15.rank)
  bcast_S1x16x15_S512x16x15_0_1_2 : S1x16x15.BroadcastsInDim S512x16x15 (![0, 1, 2] : Fin 3 → Fin S512x16x15.rank)
  reducesTo_S512x16x15_S512x16_d2 : S512x16x15.ReducesTo [2] S512x16
  shapeCasts_S512x8192_S512x1x2x8x4x128 : S512x8192.ShapeCasts S512x1x2x8x4x128
  shapeCasts_S512x16_S512x16x1x1x1x1 : S512x16.ShapeCasts S512x16x1x1x1x1
  bcast_S512x1x2x8x4x128_S512x16x2x8x4x128_0_1_2_3_4_5 : S512x1x2x8x4x128.BroadcastsInDim S512x16x2x8x4x128 (![0, 1, 2, 3, 4, 5] : Fin 6 → Fin S512x16x2x8x4x128.rank)
  bcast_S512x16x1x1x1x1_S512x16x2x8x4x128_0_1_2_3_4_5 : S512x16x1x1x1x1.BroadcastsInDim S512x16x2x8x4x128 (![0, 1, 2, 3, 4, 5] : Fin 6 → Fin S512x16x2x8x4x128.rank)
  natLt_1_32 : 1 < 32
  reducesTo_S512x16x2x8x4x128_S512x16x2x8x128_d4 : S512x16x2x8x4x128.ReducesTo [4] S512x16x2x8x128
  reducesTo_S512x16x2x8x128_S512x16x2x128_d3 : S512x16x2x8x128.ReducesTo [3] S512x16x2x128
  bcast_S_S512x16x2x8x128 : S_.BroadcastsInDim S512x16x2x8x128 (![] : Fin 0 → Fin S512x16x2x8x128.rank)
  reducesTo_S512x16x2x8x128_S512x16_d2_3_4 : S512x16x2x8x128.ReducesTo [2, 3, 4] S512x16
  bcast_S_S512x16x2x128 : S_.BroadcastsInDim S512x16x2x128 (![] : Fin 0 → Fin S512x16x2x128.rank)
  reducesTo_S512x16x2x128_S512x16_d2_3 : S512x16x2x128.ReducesTo [2, 3] S512x16
  gather_S512x8192_S512x16x1_S512x16_n_1_0_0_1_2_11_wf : GatherDims.WF S512x8192 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x8192_S512x16x1_S512x16_n_1_0_0_1_2_11 : GatherDims S512x8192 S512x16x1 S512x16 where
  offsetDims := []
  collapsedSliceDims := [1]
  operandBatchingDims := [0]
  startIndicesBatchingDims := [0]
  startIndexMap := [1]
  indexVectorDim := 2
  sliceSizes := ![1, 1]
  wf := gather_S512x8192_S512x16x1_S512x16_n_1_0_0_1_2_11_wf

def fn_argsort {F : FTy → Type} [FloatOps F] (arg0 : FVec F S512x8192 .f32) : IVec S512x8192 32 :=
  let v0 : IVec S512x8192 32 := iotaInDim S512x8192 32 1
  let v1_0 : FVec F S512x8192 .f32 := (fun x y => (Host.sort2 S512x8192 1 comparator_f32_i32_d1 x y).1) arg0 v0
  let v1_1 : IVec S512x8192 32 := (fun x y => (Host.sort2 S512x8192 1 comparator_f32_i32_d1 x y).2) arg0 v0
  v1_1

def fn_take_along_axis {F : FTy → Type} [FloatOps F] (arg0 : FVec F S512x8192 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 8192#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 8191#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x8192_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn_part1 {F : FTy → Type} [FloatOps F] (main_v19 : IVec S512x16 1) (main_v21 : FVec F S512x16x1x1x1x1 .f32) (main_v22 : FVec F S512x16x2x8x4x128 .f32) : IVec S512x16 1 :=
  let main_v23 : FVec F S512x16x2x8x4x128 .f32 := broadcastInDim S512x16x2x8x4x128 ![0, 1, 2, 3, 4, 5] bcast_S512x16x1x1x1x1_S512x16x2x8x4x128_0_1_2_3_4_5 main_v21
  let main_v24 : IVec S512x16x2x8x4x128 1 := cmpf .oge main_v22 main_v23
  let main_v25 : IVec S512x16x2x8x4x128 32 := (extui 32 · natLt_1_32) main_v24
  let main_c_0 : IVec S_ 32 := constantI S_ 32 0#32
  let main_v26 : IVec S512x16x2x8x128 32 := (fun x v => Host.reduce IntOp.addi x v reducesTo_S512x16x2x8x4x128_S512x16x2x8x128_d4 h_S_) main_v25 main_c_0
  let main_c_1 : IVec S_ 32 := constantI S_ 32 0#32
  let main_v27 : IVec S512x16x2x128 32 := (fun x v => Host.reduce IntOp.addi x v reducesTo_S512x16x2x8x128_S512x16x2x128_d3 h_S_) main_v26 main_c_1
  let main_c_2 : IVec S_ 32 := constantI S_ 32 1#32
  let main_v28 : IVec S512x16x2x8x128 32 := broadcastInDim S512x16x2x8x128 ![] bcast_S_S512x16x2x8x128 main_c_2
  let main_v29 : IVec S512x16x2x8x128 1 := cmpi .sle main_v26 main_v28
  let main_c_3 : IVec S_ 1 := constantI S_ 1 1#1
  let main_v30 : IVec S512x16 1 := (fun x v => Host.reduce IntOp.andi x v reducesTo_S512x16x2x8x128_S512x16_d2_3_4 h_S_) main_v29 main_c_3
  let main_v31 : IVec S512x16 1 := andi main_v19 main_v30
  let main_c_4 : IVec S_ 32 := constantI S_ 32 2#32
  let main_v32 : IVec S512x16x2x128 32 := broadcastInDim S512x16x2x128 ![] bcast_S_S512x16x2x128 main_c_4
  let main_v33 : IVec S512x16x2x128 1 := cmpi .sle main_v27 main_v32
  let main_c_5 : IVec S_ 1 := constantI S_ 1 1#1
  let main_v34 : IVec S512x16 1 := (fun x v => Host.reduce IntOp.andi x v reducesTo_S512x16x2x128_S512x16_d2_3 h_S_) main_v33 main_c_5
  let main_v35 : IVec S512x16 1 := andi main_v31 main_v34
  main_v35

def fn {F : FTy → Type} [FloatOps F] (main_arg0 : FVec F S512x8192 .f32) : IVec S512x16 1 :=
  let main_v0 : FVec F S512x8192 .f32 := Host.negf main_arg0
  let main_v1 : IVec S512x8192 32 := fn_argsort (F := F) main_v0
  let main_v2 : IVec S512x16 32 := (extractStridedSlice S512x16 ![0, 0] · slices_S512x8192_S512x16_0_0) main_v1
  let main_v3 : FVec F S512x16 .f32 := fn_take_along_axis (F := F) main_arg0 main_v2
  let main_v4 : FVec F S512x15 .f32 := (extractStridedSlice S512x15 ![0, 0] · slices_S512x16_S512x15_0_0) main_v3
  let main_v5 : FVec F S512x15 .f32 := (extractStridedSlice S512x15 ![0, 1] · slices_S512x16_S512x15_0_1) main_v3
  let main_v6 : IVec S512x15 1 := cmpf .ogt main_v4 main_v5
  let main_v7 : IVec S15 32 := iotaInDim S15 32 0
  let main_v8 : IVec S1x1x15 32 := broadcastInDim S1x1x15 ![2] bcast_S15_S1x1x15_2 main_v7
  let main_v9 : IVec S16 32 := iotaInDim S16 32 0
  let main_v10 : IVec S1x16x1 32 := broadcastInDim S1x16x1 ![1] bcast_S16_S1x16x1_1 main_v9
  let main_v11 : IVec S1x16x15 32 := broadcastInDim S1x16x15 ![0, 1, 2] bcast_S1x1x15_S1x16x15_0_1_2 main_v8
  let main_v12 : IVec S1x16x15 32 := broadcastInDim S1x16x15 ![0, 1, 2] bcast_S1x16x1_S1x16x15_0_1_2 main_v10
  let main_v13 : IVec S1x16x15 1 := cmpi .slt main_v11 main_v12
  let main_v14 : IVec S512x1x15 1 := broadcastInDim S512x1x15 ![0, 2] bcast_S512x15_S512x1x15_0_2 main_v6
  let main_v15 : IVec S1x16x15 1 := noti main_v13
  let main_v16 : IVec S512x16x15 1 := broadcastInDim S512x16x15 ![0, 1, 2] bcast_S512x1x15_S512x16x15_0_1_2 main_v14
  let main_v17 : IVec S512x16x15 1 := broadcastInDim S512x16x15 ![0, 1, 2] bcast_S1x16x15_S512x16x15_0_1_2 main_v15
  let main_v18 : IVec S512x16x15 1 := ori main_v16 main_v17
  let main_c : IVec S_ 1 := constantI S_ 1 1#1
  let main_v19 : IVec S512x16 1 := (fun x v => Host.reduce IntOp.andi x v reducesTo_S512x16x15_S512x16_d2 h_S_) main_v18 main_c
  let main_v20 : FVec F S512x1x2x8x4x128 .f32 := shapeCast S512x1x2x8x4x128 main_arg0 shapeCasts_S512x8192_S512x1x2x8x4x128
  let main_v21 : FVec F S512x16x1x1x1x1 .f32 := shapeCast S512x16x1x1x1x1 main_v3 shapeCasts_S512x16_S512x16x1x1x1x1
  let main_v22 : FVec F S512x16x2x8x4x128 .f32 := broadcastInDim S512x16x2x8x4x128 ![0, 1, 2, 3, 4, 5] bcast_S512x1x2x8x4x128_S512x16x2x8x4x128_0_1_2_3_4_5 main_v20
  fn_part1 (F := F) main_v19 main_v21 main_v22
-- ==== Kernel.lean ====
abbrev S512x4096 : Shape := ⟨2, ![512, 4096]⟩
abbrev S512x16 : Shape := ⟨2, ![512, 16]⟩
abbrev S4x256x16 : Shape := ⟨3, ![4, 256, 16]⟩
abbrev S3 : Shape := ⟨1, ![3]⟩
abbrev S_ : Shape := ⟨0, ![]⟩
abbrev S256x128 : Shape := ⟨2, ![256, 128]⟩
abbrev S256 : Shape := ⟨1, ![256]⟩
abbrev S256x1 : Shape := ⟨2, ![256, 1]⟩
abbrev S256x16 : Shape := ⟨2, ![256, 16]⟩
abbrev S1x256x16 : Shape := ⟨3, ![1, 256, 16]⟩
abbrev S1 : Shape := ⟨1, ![1]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S4x256x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v11 : BitVec 32 := Scalar.muli v2 c2_i32_7
  let v12 : BitVec 32 := Scalar.addi c0_i32 v11
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v13 : BitVec 32 := Scalar.muli v6 c1_i32_8
  let v14 : BitVec 32 := Scalar.addi v12 v13
  v14.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v15 : BitVec 32 := Scalar.muli v7 c2_i32_10
  let v16 : BitVec 32 := Scalar.addi c0_i32_11 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v17 : BitVec 32 := Scalar.muli v5 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v24 : Index := Scalar.indexCast v23
  let c0 : Index := 0#32
  ![v24.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v27 : Index := Scalar.indexCast v23
  let c128 : Index := 128#32
  ![v27.toNat, 128]
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v31 : Index := Scalar.indexCast v23
  let c256 : Index := 256#32
  ![v31.toNat, 256]
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v35 : Index := Scalar.indexCast v23
  let c384 : Index := 384#32
  ![v35.toNat, 384]
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v39 : Index := Scalar.indexCast v23
  let c512 : Index := 512#32
  ![v39.toNat, 512]
def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v42 : Index := Scalar.indexCast v23
  let c640 : Index := 640#32
  ![v42.toNat, 640]
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v46 : Index := Scalar.indexCast v23
  let c768 : Index := 768#32
  ![v46.toNat, 768]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v50 : Index := Scalar.indexCast v23
  let c896 : Index := 896#32
  ![v50.toNat, 896]
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v54 : Index := Scalar.indexCast v23
  let c1024 : Index := 1024#32
  ![v54.toNat, 1024]
def k0_off10 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v57 : Index := Scalar.indexCast v23
  let c1152 : Index := 1152#32
  ![v57.toNat, 1152]
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v61 : Index := Scalar.indexCast v23
  let c1280 : Index := 1280#32
  ![v61.toNat, 1280]
def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v65 : Index := Scalar.indexCast v23
  let c1408 : Index := 1408#32
  ![v65.toNat, 1408]
def k0_off13 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v69 : Index := Scalar.indexCast v23
  let c1536 : Index := 1536#32
  ![v69.toNat, 1536]
def k0_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v72 : Index := Scalar.indexCast v23
  let c1664 : Index := 1664#32
  ![v72.toNat, 1664]
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v76 : Index := Scalar.indexCast v23
  let c1792 : Index := 1792#32
  ![v76.toNat, 1792]
def k0_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v80 : Index := Scalar.indexCast v23
  let c1920 : Index := 1920#32
  ![v80.toNat, 1920]
def k0_off17 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v84 : Index := Scalar.indexCast v23
  let c2048 : Index := 2048#32
  ![v84.toNat, 2048]
def k0_off18 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v87 : Index := Scalar.indexCast v23
  let c2176 : Index := 2176#32
  ![v87.toNat, 2176]
def k0_off19 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v91 : Index := Scalar.indexCast v23
  let c2304 : Index := 2304#32
  ![v91.toNat, 2304]
def k0_off20 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v95 : Index := Scalar.indexCast v23
  let c2432 : Index := 2432#32
  ![v95.toNat, 2432]
def k0_off21 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v99 : Index := Scalar.indexCast v23
  let c2560 : Index := 2560#32
  ![v99.toNat, 2560]
def k0_off22 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v102 : Index := Scalar.indexCast v23
  let c2688 : Index := 2688#32
  ![v102.toNat, 2688]
def k0_off23 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v106 : Index := Scalar.indexCast v23
  let c2816 : Index := 2816#32
  ![v106.toNat, 2816]
def k0_off24 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v110 : Index := Scalar.indexCast v23
  let c2944 : Index := 2944#32
  ![v110.toNat, 2944]
def k0_off25 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v114 : Index := Scalar.indexCast v23
  let c3072 : Index := 3072#32
  ![v114.toNat, 3072]
def k0_off26 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v117 : Index := Scalar.indexCast v23
  let c3200 : Index := 3200#32
  ![v117.toNat, 3200]
def k0_off27 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v121 : Index := Scalar.indexCast v23
  let c3328 : Index := 3328#32
  ![v121.toNat, 3328]
def k0_off28 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v125 : Index := Scalar.indexCast v23
  let c3456 : Index := 3456#32
  ![v125.toNat, 3456]
def k0_off29 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v129 : Index := Scalar.indexCast v23
  let c3584 : Index := 3584#32
  ![v129.toNat, 3584]
def k0_off30 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v132 : Index := Scalar.indexCast v23
  let c3712 : Index := 3712#32
  ![v132.toNat, 3712]
def k0_off31 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v136 : Index := Scalar.indexCast v23
  let c3840 : Index := 3840#32
  ![v136.toNat, 3840]
def k0_off32 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v140 : Index := Scalar.indexCast v23
  let c3968 : Index := 3968#32
  ![v140.toNat, 3968]
def k0_dev4 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v275 : BitVec 32 := Scalar.muli v2 c2_i32_54
  let v276 : BitVec 32 := Scalar.addi c0_i32_55 v275
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v277 : BitVec 32 := Scalar.muli v6 c1_i32_56
  let v278 : BitVec 32 := Scalar.addi v276 v277
  v278.toNat
def k0_dev5 (d0 : Dev nD) : Nat :=
  let c0_i32_66 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_65 : BitVec 32 := 2#32
  let v287 : BitVec 32 := Scalar.muli v7 c2_i32_65
  let v288 : BitVec 32 := Scalar.addi c0_i32_66 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v289 : BitVec 32 := Scalar.muli v5 c1_i32_67
  let v290 : BitVec 32 := Scalar.addi v288 v289
  v290.toNat
def k0_dev6 (d0 : Dev nD) : Nat :=
  let c0_i32_77 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_76 : BitVec 32 := 2#32
  let v299 : BitVec 32 := Scalar.muli v8 c2_i32_76
  let v300 : BitVec 32 := Scalar.addi c0_i32_77 v299
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_78 : BitVec 32 := 1#32
  let v301 : BitVec 32 := Scalar.muli v9 c1_i32_78
  let v302 : BitVec 32 := Scalar.addi v300 v301
  v302.toNat
def k0_off33 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let v419 : Index := Scalar.indexCast v23
  let c0_130 : Index := 0#32
  ![v419.toNat, 0]
def k0_off34 (d0 : Dev nD) : Fin 2 → Nat :=
  let c1_i32_188 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v539 : BitVec 32 := Scalar.subi c1_i32_188 v2
  let c256_i32_189 : BitVec 32 := 256#32
  let v540 : BitVec 32 := Scalar.muli v539 c256_i32_189
  let v541 : Index := Scalar.indexCast v540
  let c0_190 : Index := 0#32
  ![v541.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Content.lean ====
/-
What the kernel's vector work computes, as functions of the blocks it loads: `candOf` (one device's sixteen candidates
per row, from its 32 column slabs), `mergeLocal` and `mergeRemote` (the sixteen greatest of two candidate lists), and
`flat`, the whole kernel body written as one sequence of memory operations over these, which the printed body is.
-/
module

public import proofs.«01_k».proof.Proof.Gen.KernelIdeal
public import proofs.«01_k».proof.Proof.Gen.KernelIdeal.Skeleton
public import Idealize.ShloMosaic.Lib.Tactic

@[expose] public section

noncomputable section

namespace Cert.TopK

open Cert.KernelIdeal Cert.KernelIdeal.Gen
open Idealize.ShloMosaic Idealize.SL.Sem

variable {F : FTy → Type} [FloatOps F]

/-- The lane vectors after two extraction steps, from the eight group maxima (the last two still as their slabs):
    the first column, the second column, then `(next, mask, current)` as the third step reads them. -/
def candGroups (g0 g1 g2 g3 g4 g5 g6 : FVec F S256x128 .f32) (a b c d e : Vec F S256x128 .f32) : FVec F S256x16 .f32 :=
  let n := k0_pay23 g0 g1 g2 g3 g4 g5 g6 a b c d e
  let h := k0_pay25 g0 g1 g2 g3 g4 g5 g6 a b c d e
  let w := k0_pay26 g0 g1 g2 g3 g4 g5 g6 a b c d e
  let z : F .f32 := Scalar.ofBits .f32 0xFF800000#32
  k0_pay54 (k0_pay20 g0 g1 g2 g3 g4 g5 g6 a b c d e) (k0_pay24 g0 g1 g2 g3 g4 g5 g6 a b c d e) (k0_pay28 w)
    (k0_pay32 n h w z) (k0_pay36 n h w z) (k0_pay40 n h w z) (k0_pay44 n h w z) (k0_pay48 n h w z)
    (k0_pay50 n h w z) (k0_pay51 n h w z) (k0_pay52 n h w z) (k0_pay53 n h w z)

/-- One device's candidates: sixteen per row, from the 32 slabs of 128 columns of its half of the columns. -/
def cand32 (s0 s1 s2 s3 s4 s5 s6 s7 s8 s9 s10 s11 s12 s13 s14 s15 s16 s17 s18 s19 s20 s21 s22 s23 s24 s25 s26 s27 s28 s29 s30 s31 : Vec F S256x128 .f32) : FVec F S256x16 .f32 :=
  candGroups (k0_pay2 (k0_pay1 s0 s1) s2 s3) (k0_pay3 s4 s5 s6 s7) (k0_pay4 s8 s9 s10 s11)
    (k0_pay6 (k0_pay5 s12 s13 s14) s15) (k0_pay7 s16 s17 s18 s19) (k0_pay8 s20 s21 s22 s23)
    (k0_pay9 s24 s25 s26) s27 s28 s29 s30 s31

/-- The same from the slabs as one family. -/
def candOf (s : Fin 32 → Vec F S256x128 .f32) : FVec F S256x16 .f32 :=
  cand32 (s 0) (s 1) (s 2) (s 3) (s 4) (s 5) (s 6) (s 7) (s 8) (s 9) (s 10) (s 11) (s 12) (s 13) (s 14) (s 15) (s 16) (s 17) (s 18) (s 19) (s 20) (s 21) (s 22) (s 23) (s 24) (s 25) (s 26) (s 27) (s 28) (s 29) (s 30) (s 31)

/-- The sixteen greatest of a device's own candidates and those of the device beside it. -/
def mergeLocal (a b : Vec F S1x256x16 .f32) : FVec F S256x16 .f32 :=
  let w := k0_pay56 a b
  let h := k0_pay58 a b
  k0_pay74 (k0_pay57 a b) (k0_pay60 w h) (k0_pay62 w h) (k0_pay64 w h) (k0_pay66 w h) (k0_pay68 w h) (k0_pay70 w h)
    (k0_pay72 w h) (k0_pay73 w h)

/-- The sixteen greatest of the two candidate lists that came from the other rows' devices. -/
def mergeRemote (a b : Vec F S1x256x16 .f32) : FVec F S256x16 .f32 :=
  let w := k0_pay75 a b
  let x := k0_pay76 a b
  let w' := k0_pay90 w x
  let h := k0_pay92 w x
  let z : F .f32 := Scalar.ofBits .f32 0xFF800000#32
  k0_pay108 (k0_pay77 x) (k0_pay79 w x) (k0_pay81 w x) (k0_pay83 w x) (k0_pay85 w x) (k0_pay87 w x) (k0_pay89 w x)
    (k0_pay91 w x) (k0_pay94 w' h z) (k0_pay96 w' h z) (k0_pay98 w' h z) (k0_pay100 w' h z) (k0_pay102 w' h z)
    (k0_pay104 w' h z) (k0_pay106 w' h z) (k0_pay107 w' h z)

/-! ## Names for the memory the body touches -/

abbrev xM : Memref sig .tc .vmem S512x4096 .f32 := Memref.whole cc0_stg0_0
abbrev oM : Memref sig .tc .vmem S512x16 .f32 := Memref.whole cc0_stg1_0
abbrev cM : Memref sig .tc .vmem S4x256x16 .f32 := Memref.whole cc0_scratch0

/-- The runtime's barrier semaphore of this kernel's collective id. -/
abbrev barS : Sem sig := (SemArray.scalar (sig.barrier 0 rfl) : Sems sig S_).sem

theorem slot_inb (k : Fin 4) : ∀ a, (![k.val, 0, 0] : Fin 3 → ℕ) a + S1x256x16.size a ≤ S4x256x16.size a := by
  revert k; decide
theorem sem_inb (i : Fin 3) : ∀ a, (![i.val] : Fin 1 → ℕ) a + S1.size a ≤ S3.size a := by revert i; decide

/-- Slot `k` of the candidate buffer. -/
abbrev slotR (k : Fin 4) : Rect S4x256x16 := Rect.unit (s := S4x256x16) ![k.val, 0, 0] S1x256x16.size (slot_inb k)
abbrev slotM (k : Fin 4) : Memref sig .tc .vmem S1x256x16 .f32 := cM.slice (slotR k) (fun _ => rfl)
abbrev flatM (k : Fin 4) : Memref sig .tc .vmem S256x16 .f32 := (slotM k).squeeze S256x16 squeezes_S1x256x16_S256x16

/-- Copy `i`'s send semaphore and its receive semaphore. -/
abbrev sendS (i : Fin 3) : DmaSem sig :=
  (((cc0_scratch1 : DmaSems sig S3).slice (Rect.unit (s := S3) ![i.val] S1.size (sem_inb i))).squeeze S_ squeezes_S1_S_).sem
abbrev recvS (i : Fin 3) : DmaSem sig :=
  (((cc0_scratch2 : DmaSems sig S3).slice (Rect.unit (s := S3) ![i.val] S1.size (sem_inb i))).squeeze S_ squeezes_S1_S_).sem

/-- What a load of the 256×128 block at offsets `off` reads out of the staged block `X`. -/
abbrev slab (X : (cc0_stg0_0 : Ref sig .tc).ty.Contents (Elt F)) (off : Fin 2 → ℕ) (h : ∀ a, off a + S256x128.size a ≤ S512x4096.size a) :
    Vec F S256x128 .f32 :=
  xM.view.readAt (Elt F) (Rect.unit (s := S512x4096) off S256x128.size h).toLoadRect X
/-- The 32 slabs of device `d`'s rows, as the body loads them out of the staged block `X`. -/
def slabs (d : Dev nD) (X : (cc0_stg0_0 : Ref sig .tc).ty.Contents (Elt F)) : Fin 32 → Vec F S256x128 .f32 :=
  ![slab X (k0_off1 d) (k0_off1_inb d),
    slab X (k0_off2 d) (k0_off2_inb d),
    slab X (k0_off3 d) (k0_off3_inb d),
    slab X (k0_off4 d) (k0_off4_inb d),
    slab X (k0_off5 d) (k0_off5_inb d),
    slab X (k0_off6 d) (k0_off6_inb d),
    slab X (k0_off7 d) (k0_off7_inb d),
    slab X (k0_off8 d) (k0_off8_inb d),
    slab X (k0_off9 d) (k0_off9_inb d),
    slab X (k0_off10 d) (k0_off10_inb d),
    slab X (k0_off11 d) (k0_off11_inb d),
    slab X (k0_off12 d) (k0_off12_inb d),
    slab X (k0_off13 d) (k0_off13_inb d),
    slab X (k0_off14 d) (k0_off14_inb d),
    slab X (k0_off15 d) (k0_off15_inb d),
    slab X (k0_off16 d) (k0_off16_inb d),
    slab X (k0_off17 d) (k0_off17_inb d),
    slab X (k0_off18 d) (k0_off18_inb d),
    slab X (k0_off19 d) (k0_off19_inb d),
    slab X (k0_off20 d) (k0_off20_inb d),
    slab X (k0_off21 d) (k0_off21_inb d),
    slab X (k0_off22 d) (k0_off22_inb d),
    slab X (k0_off23 d) (k0_off23_inb d),
    slab X (k0_off24 d) (k0_off24_inb d),
    slab X (k0_off25 d) (k0_off25_inb d),
    slab X (k0_off26 d) (k0_off26_inb d),
    slab X (k0_off27 d) (k0_off27_inb d),
    slab X (k0_off28 d) (k0_off28_inb d),
    slab X (k0_off29 d) (k0_off29_inb d),
    slab X (k0_off30 d) (k0_off30_inb d),
    slab X (k0_off31 d) (k0_off31_inb d),
    slab X (k0_off32 d) (k0_off32_inb d)]

abbrev ownR (d : Dev nD) : Rect S512x16 := Rect.unit (s := S512x16) (k0_off33 d) S256x16.size (k0_off33_inb d)
abbrev otherR (d : Dev nD) : Rect S512x16 := Rect.unit (s := S512x16) (k0_off34 d) S256x16.size (k0_off34_inb d)

/-! ## The body as one sequence -/

abbrev P₀ (α : Type) : Type 1 := Prog (TpuEff nD τ sig (Elt F) Λ₀ .tc) α

/-- The load of one slab at offsets `off`. -/
abbrev loadX (off : Fin 2 → ℕ) (h : ∀ a, off a + S256x128.size a ≤ S512x4096.size a) : Prog (TpuEff nD τ sig (Elt F) Λ₀ .tc) (Vec F S256x128 .f32) :=
  Prog.lift (.load xM (Rect.unit (s := S512x4096) off S256x128.size h).toLoadRect (View.loadsAt_vmem h_S256x128))
/-- The load of slot `k`. -/
abbrev loadC (k : Fin 4) : Prog (TpuEff nD τ sig (Elt F) Λ₀ .tc) (Vec F S1x256x16 .f32) :=
  Prog.lift (.load cM (slotR k).toLoadRect (View.loadsAt_vmem h_S1x256x16))
/-- The copy of slot 0 into slot `i + 1` of device `n`. -/
abbrev copy (i : Fin 3) (n : Dev nD) : Prog (TpuEff nD τ sig (Elt F) Λ₀ .tc) PUnit :=
  Prog.lift (.enqueueDma (flatM 0) (.remote (Dev.tc n) (flatM i.succ) (.dma (sendS i))) (.dma (recvS i))
    ((View.wordExact_bits rfl).reshape _ _) ((View.wordExact_bits rfl).reshape _ _) ⟨⟨rfl, Or.inl rfl⟩, trivial⟩)
abbrev waitRecv (i : Fin 3) : Prog (TpuEff nD τ sig (Elt F) Λ₀ .tc) PUnit :=
  Prog.lift (.waitDma2 (recvS i) (flatM 0) (flatM i.succ) ((View.wordExact_bits rfl).reshape _ _) ((View.wordExact_bits rfl).reshape _ _))
abbrev waitSend (i : Fin 3) : Prog (TpuEff nD τ sig (Elt F) Λ₀ .tc) PUnit :=
  Prog.lift (.waitDma2 (sendS i) (flatM i.succ) (flatM 0) ((View.wordExact_bits rfl).reshape _ _) ((View.wordExact_bits rfl).reshape _ _))

/-- The kernel body: three signals, the slabs loaded, the candidates stored, the wait for three signals, three copies,
    the first merge stored, the second merge stored, the sends waited for. -/
def flat : Prog (TpuEff nD τ sig (Elt F) Λ₀ .tc) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  let s0 ← loadX (k0_off1 d) (k0_off1_inb d)
  let s1 ← loadX (k0_off2 d) (k0_off2_inb d)
  let s2 ← loadX (k0_off3 d) (k0_off3_inb d)
  let s3 ← loadX (k0_off4 d) (k0_off4_inb d)
  let s4 ← loadX (k0_off5 d) (k0_off5_inb d)
  let s5 ← loadX (k0_off6 d) (k0_off6_inb d)
  let s6 ← loadX (k0_off7 d) (k0_off7_inb d)
  let s7 ← loadX (k0_off8 d) (k0_off8_inb d)
  let s8 ← loadX (k0_off9 d) (k0_off9_inb d)
  let s9 ← loadX (k0_off10 d) (k0_off10_inb d)
  let s10 ← loadX (k0_off11 d) (k0_off11_inb d)
  let s11 ← loadX (k0_off12 d) (k0_off12_inb d)
  let s12 ← loadX (k0_off13 d) (k0_off13_inb d)
  let s13 ← loadX (k0_off14 d) (k0_off14_inb d)
  let s14 ← loadX (k0_off15 d) (k0_off15_inb d)
  let s15 ← loadX (k0_off16 d) (k0_off16_inb d)
  let s16 ← loadX (k0_off17 d) (k0_off17_inb d)
  let s17 ← loadX (k0_off18 d) (k0_off18_inb d)
  let s18 ← loadX (k0_off19 d) (k0_off19_inb d)
  let s19 ← loadX (k0_off20 d) (k0_off20_inb d)
  let s20 ← loadX (k0_off21 d) (k0_off21_inb d)
  let s21 ← loadX (k0_off22 d) (k0_off22_inb d)
  let s22 ← loadX (k0_off23 d) (k0_off23_inb d)
  let s23 ← loadX (k0_off24 d) (k0_off24_inb d)
  let s24 ← loadX (k0_off25 d) (k0_off25_inb d)
  let s25 ← loadX (k0_off26 d) (k0_off26_inb d)
  let s26 ← loadX (k0_off27 d) (k0_off27_inb d)
  let s27 ← loadX (k0_off28 d) (k0_off28_inb d)
  let s28 ← loadX (k0_off29 d) (k0_off29_inb d)
  let s29 ← loadX (k0_off30 d) (k0_off30_inb d)
  let s30 ← loadX (k0_off31 d) (k0_off31_inb d)
  let s31 ← loadX (k0_off32 d) (k0_off32_inb d)
  let _ ← loadC 0
  Prog.lift (.store cM (slotR 0) (k0_pay55 (cand32 s0 s1 s2 s3 s4 s5 s6 s7 s8 s9 s10 s11 s12 s13 s14 s15 s16 s17 s18 s19 s20 s21 s22 s23 s24 s25 s26 s27 s28 s29 s30 s31)) Finset.univ (View.stores_vmem_bits_univ h_S1x256x16 rfl) (.inl rfl))
  semWaitWord barS 3#32
  copy 0 (⟨k0_dev4 d, k0_dev4_lt d⟩ : Dev nD)
  copy 1 (⟨k0_dev5 d, k0_dev5_lt d⟩ : Dev nD)
  copy 2 (⟨k0_dev6 d, k0_dev6_lt d⟩ : Dev nD)
  waitRecv 0
  let a ← loadC 0
  let b ← loadC 1
  let _ ← Prog.lift (.load oM (ownR d).toLoadRect (View.loadsAt_vmem h_S256x16))
  Prog.lift (.store oM (ownR d) (mergeLocal a b) Finset.univ (View.stores_vmem_bits_univ h_S256x16 rfl) (.inl rfl))
  waitRecv 1
  waitRecv 2
  let a ← loadC 2
  let b ← loadC 3
  let _ ← Prog.lift (.load oM (otherR d).toLoadRect (View.loadsAt_vmem h_S256x16))
  Prog.lift (.store oM (otherR d) (mergeRemote a b) Finset.univ (View.stores_vmem_bits_univ h_S256x16 rfl) (.inl rfl))
  waitSend 0
  waitSend 1
  waitSend 2
  pure ⟨⟩

set_option maxRecDepth 65536 in
set_option maxHeartbeats 4000000 in
/-- The printed body, at the launch's buffers, is `flat`. -/
theorem body_eq_flat : cc0_body (F := F) xM (Memref.isWhole_whole _) oM (Memref.isWhole_whole _) cM (Memref.isWhole_whole _)
    cc0_scratch1 cc0_scratch2 = flat := by
  rw [cc0_body_eq_skeleton]; rfl

end Cert.TopK

end
-- ==== Proof.Protocol.lean ====
/-
The protocol of the kernel's four devices, before any run of it.

Device `c` has three peers `peer 0 c`, `peer 1 c`, `peer 2 c` (its number with bit 0, bit 1, both flipped). Per device:
  * the runtime's barrier semaphore: each peer signals it one unit, and the signal of peer `i` hands over that peer's
    landing slot `i + 1` (any contents) and that the peer has not yet received there; the device waits for three;
  * receive semaphore `i`: peer `i`'s copy pays it; the landing hands over slot `i + 1` holding that peer's candidates;
  * send semaphore `i`: the device's own copy `i` pays it; it hands back the share of slot 0 lent to the copy.
Slot 0 is read by the three copies and by the body at once: it is held in four shares.
-/
module

public import proofs.«01_k».proof.Proof.Content
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory the launch starts from: any contents, all counters zero. -/
def s₀ : MemSt nD τ sig (Elt F) := ⟨m, fun _ => 0, ρ⟩

/-! ## The peers -/

set_option backward.proofsInPublic true in
def peer (i : Fin 3) (c : Dev nD) : Dev nD := ⟨(c.val ^^^ (i.val + 1)) % 4, Nat.mod_lt _ (by decide)⟩

theorem peer_peer (i : Fin 3) (c : Dev nD) : peer i (peer i c) = c := by revert i c; decide

/-- Being peer `i` is a pairing of the devices. -/
def pairing (i : Fin 3) : Dev nD ≃ Dev nD := ⟨peer i, peer i, peer_peer i, peer_peer i⟩

theorem dev1_eq (c : Dev nD) : (⟨k0_dev1 c, k0_dev1_lt c⟩ : Dev nD) = peer 0 c :=
  Fin.ext ((k0_dev1_eq c).trans (by revert c; decide))
theorem dev2_eq (c : Dev nD) : (⟨k0_dev2 c, k0_dev2_lt c⟩ : Dev nD) = peer 1 c :=
  Fin.ext ((k0_dev2_eq c).trans (by revert c; decide))
theorem dev3_eq (c : Dev nD) : (⟨k0_dev3 c, k0_dev3_lt c⟩ : Dev nD) = peer 2 c :=
  Fin.ext ((k0_dev3_eq c).trans (by revert c; decide))
theorem dev4_eq (c : Dev nD) : (⟨k0_dev4 c, k0_dev4_lt c⟩ : Dev nD) = peer 0 c :=
  Fin.ext ((k0_dev4_eq c).trans (by revert c; decide))
theorem dev5_eq (c : Dev nD) : (⟨k0_dev5 c, k0_dev5_lt c⟩ : Dev nD) = peer 1 c :=
  Fin.ext ((k0_dev5_eq c).trans (by revert c; decide))
theorem dev6_eq (c : Dev nD) : (⟨k0_dev6 c, k0_dev6_lt c⟩ : Dev nD) = peer 2 c :=
  Fin.ext ((k0_dev6_eq c).trans (by revert c; decide))

/-! ## The cells -/

abbrev barCell (c : Dev nD) : GSem nD τ sig := ((c : Thread nD τ), .reg barS)
abbrev sendCell (i : Fin 3) (c : Dev nD) : GSem nD τ sig := ((c : Thread nD τ), .dma (sendS i))
abbrev recvCell (i : Fin 3) (c : Dev nD) : GSem nD τ sig := ((c : Thread nD τ), .dma (recvS i))

/-- The kernel's own scoped semaphores: three sends, three receives; -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- and all seven, the barrier first. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- Where send cell `i` and receive cell `i` stand among the seven. -/
abbrev sIx : Fin 3 → Fin 7 := fun | 0 => 1 | 1 => 2 | 2 => 3
abbrev rIx : Fin 3 → Fin 7 := fun | 0 => 4 | 1 => 5 | 2 => 6
theorem kcell_s (i : Fin 3) (c : Dev nD) : kcell (c, sIx i) = sendCell i c := by fin_cases i <;> rfl
theorem kcell_r (i : Fin 3) (c : Dev nD) : kcell (c, rIx i) = recvCell i c := by fin_cases i <;> rfl

/-- What one copy pays a semaphore. -/
abbrev N : ℕ := (flatM 0).view.dmaCredit
theorem N_pos : 0 < N := View.dmaCredit_pos _ (by decide)

/-! ## Contents -/

/-- Device `c`'s staged argument block. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s candidates, as slot 0 holds them. -/
def cand (c : Dev nD) : Vec F S1x256x16 .f32 := k0_pay55 (candOf (slabs c (xstg m ρ c)))

/-- Slot `k` of device `c` held at share `q`, reading `w`. -/
abbrev slotPts (c : Dev nD) (k : Fin 4) (q : PosShare TreeShare) (w : Vec F S1x256x16 .f32) : sProp 𝕄 :=
  owns (Val := Elt F) (c : Thread nD τ) (slotM k) q w

/-- The share of slot 0 lent to copy `i`; the body keeps `qKeep`. -/
def qLend : Fin 3 → PosShare TreeShare := fun
  | 0 => fullShare.left.left | 1 => fullShare.left.right | 2 => fullShare.right.left
def qKeep : PosShare TreeShare := fullShare.right.right

/-! ## The schedule -/

/-- What peer `i`'s signal hands `c`: that peer's slot `i + 1`, and that its receive cell `i` is at round 0. -/
def barPay (i : Fin 3) (c : Dev nD) : sProp 𝕄 :=
  iprop((∃ w, slotPts (peer i c) i.succ fullShare w) ∗ reached ER (recvCell i (peer i c)) 0)
def recvPay (i : Fin 3) (c : Dev nD) : sProp 𝕄 := slotPts c i.succ fullShare (cand m ρ (peer i c))
def sendPay (i : Fin 3) (c : Dev nD) : sProp 𝕄 := slotPts c 0 (qLend i) (cand m ρ c)

/-- Which copy a transfer semaphore belongs to. -/
def copyOf (q : DmaSem sig) : Fin 3 := if q = sendS 0 ∨ q = recvS 0 then 0 else if q = sendS 1 ∨ q = recvS 1 then 1 else 2
def IsSend (q : DmaSem sig) : Prop := q = sendS 0 ∨ q = sendS 1 ∨ q = sendS 2
def IsRecv (q : DmaSem sig) : Prop := q = recvS 0 ∨ q = recvS 1 ∨ q = recvS 2
instance (q : DmaSem sig) : Decidable (IsSend q) := by unfold IsSend; infer_instance
instance (q : DmaSem sig) : Decidable (IsRecv q) := by unfold IsRecv; infer_instance

/-- One round: a barrier cell's three duties of one unit, a transfer cell's one duty of the copy's credit. -/
def Rd : Rounds.Schedule (GSem nD τ sig) (Fin 3) 𝕄 where
  duties g r := if r = 0 ∧ g.1.2 = .tc then (match g.2 with
    | .reg s => if s = barS then Finset.univ else ∅
    | .dma q => if IsSend q ∨ IsRecv q then {0} else ∅) else ∅
  unitless _ := False
  amount g _ _ := match g.2 with | .reg _ => 1 | .dma _ => N
  payload g _ d := match g.2 with
    | .reg _ => barPay d g.1.1
    | .dma q => if IsSend q then sendPay m ρ (copyOf q) g.1.1 else recvPay m ρ (copyOf q) g.1.1
  amount_pos g _ _ _ := by
    rcases g with ⟨_, s | q⟩
    · exact Nat.one_pos
    · exact N_pos

instance Rd_payload_storable (g : GSem nD τ sig) (r : ℕ) (d : Fin 3) :
    BI.Storable (upEmb : UEmb _ 𝕄) ((Rd (F := F) m ρ).payload g r d) := by
  rcases g with ⟨t, s | q⟩
  · show BI.Storable upEmb (barPay d t.1)
    unfold barPay; infer_instance
  · show BI.Storable upEmb (if IsSend q then sendPay m ρ (copyOf q) t.1 else recvPay m ρ (copyOf q) t.1)
    unfold sendPay recvPay
    split <;> infer_instance

section Sched
variable (i : Fin 3) (c : Dev nD)

theorem isSend_send : IsSend (sendS i) := by revert i; decide
theorem isRecv_recv : IsRecv (recvS i) := by revert i; decide
theorem not_isSend_recv : ¬ IsSend (recvS i) := by revert i; decide
theorem copyOf_send : copyOf (sendS i) = i := by revert i; decide
theorem copyOf_recv : copyOf (recvS i) = i := by revert i; decide

omit [FloatOps F] in
theorem duties_later [FloatOps F] (g : GSem nD τ sig) : ∀ r, 1 ≤ r → (Rd (F := F) m ρ).duties g r = ∅ :=
  fun r hr => by dsimp only [Rd]; exact if_neg fun h => by omega

theorem duties_bar : (Rd (F := F) m ρ).duties (barCell c) 0 = Finset.univ := by
  dsimp only [Rd]; rw [if_pos ⟨rfl, rfl⟩]; exact if_pos rfl
theorem duties_send : (Rd (F := F) m ρ).duties (sendCell i c) 0 = {0} := by
  dsimp only [Rd]; rw [if_pos ⟨rfl, rfl⟩]; exact if_pos (.inl (isSend_send i))
theorem duties_recv : (Rd (F := F) m ρ).duties (recvCell i c) 0 = {0} := by
  dsimp only [Rd]; rw [if_pos ⟨rfl, rfl⟩]; exact if_pos (.inr (isRecv_recv i))

theorem amount_bar (d : Fin 3) : (Rd (F := F) m ρ).amount (barCell c) 0 d = 1 := rfl
theorem amount_send (d : Fin 3) : (Rd (F := F) m ρ).amount (sendCell i c) 0 d = N := rfl
theorem amount_recv (d : Fin 3) : (Rd (F := F) m ρ).amount (recvCell i c) 0 d = N := rfl

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell i c) 0 = N := by
  unfold Schedule.expect Schedule.amountOf; rw [duties_send, Finset.sum_singleton, amount_send]
theorem expect_recv : (Rd (F := F) m ρ).expect (recvCell i c) 0 = N := by
  unfold Schedule.expect Schedule.amountOf; rw [duties_recv, Finset.sum_singleton, amount_recv]

theorem payload_bar (d : Fin 3) : (Rd (F := F) m ρ).payload (barCell c) 0 d = barPay d c := rfl
theorem payload_send (d : Fin 3) : (Rd (F := F) m ρ).payload (sendCell i c) 0 d = sendPay m ρ i c := by
  dsimp only [Rd]; rw [if_pos (isSend_send i), copyOf_send]
theorem payload_recv (d : Fin 3) : (Rd (F := F) m ρ).payload (recvCell i c) 0 d = recvPay m ρ i c := by
  dsimp only [Rd]; rw [if_neg (not_isSend_recv i), copyOf_recv]

/-- The whole round of a barrier cell hands over the three peers' slots. -/
theorem rest_bar : bigSep ((Rd (F := F) m ρ).duties (barCell c) 0 \ ∅) (fun d => (Rd (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton]
  rfl
theorem rest_send : bigSep ((Rd (F := F) m ρ).duties (sendCell i c) 0 \ ∅) (fun d => (Rd (F := F) m ρ).payload (sendCell i c) 0 d) = sendPay m ρ i c := by
  rw [Finset.sdiff_empty, duties_send, bigSep_singleton, payload_send]
theorem rest_recv : bigSep ((Rd (F := F) m ρ).duties (recvCell i c) 0 \ ∅) (fun d => (Rd (F := F) m ρ).payload (recvCell i c) 0 d) = recvPay m ρ i c := by
  rw [Finset.sdiff_empty, duties_recv, bigSep_singleton, payload_recv]

end Sched

/-! ## What a device owes, and the levels of the cells -/

/-- After the first two copies, after the first, before the copies; then before the third, second and first signal. -/
def OA (c : Dev nD) : CellTallies nD τ sig Unit := tallyAt (recvCell 2 (peer 2 c)) () N
def OB (c : Dev nD) : CellTallies nD τ sig Unit := OA c + tallyAt (recvCell 1 (peer 1 c)) () N
def OC (c : Dev nD) : CellTallies nD τ sig Unit := OB c + tallyAt (recvCell 0 (peer 0 c)) () N
def OD (c : Dev nD) : CellTallies nD τ sig Unit := OC c + tallyAt (barCell (peer 2 c)) () 1
def OE (c : Dev nD) : CellTallies nD τ sig Unit := OD c + tallyAt (barCell (peer 1 c)) () 1
def O₀ (c : Dev nD) : CellTallies nD τ sig Unit := OE c + tallyAt (barCell (peer 0 c)) () 1

def L (g : GSem nD τ sig) : Finset Unit := if g.1.2 = .tc then {()} else ∅
/-- Barrier cells at level 1, receive cells at 2, all others at 0. -/
def lv (g : GSem nD τ sig) (_ : Unit) : ℕ := match g.2 with | .reg _ => 1 | .dma q => if IsRecv q then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (i : Fin 3) (c : Dev nD) : lv (recvCell i c) () = 2 := if_pos (isRecv_recv i)

theorem tally_pos {g h : GSem nD τ sig} {u : Unit} {n : ℕ} (hp : 0 < (tallyAt h () n : CellTallies nD τ sig Unit) g u) : g = h := by
  rw [tallyAt_apply] at hp
  by_contra hn
  rw [if_neg fun h' => hn h'.1] at hp
  exact Nat.lt_irrefl 0 hp

theorem OC_pos {c : Dev nD} {g : GSem nD τ sig} {u : Unit} (h : 0 < OC c g u) : ∃ i, g = recvCell i (peer i c) := by
  unfold OC OB OA at h
  rw [Pi.add_apply, Finsupp.add_apply, Pi.add_apply, Finsupp.add_apply] at h
  rcases Nat.pos_of_ne_zero (Nat.pos_iff_ne_zero.mp h) |> Nat.add_pos_iff_pos_or_pos.mp with h | h
  · rcases Nat.add_pos_iff_pos_or_pos.mp h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ i, g = recvCell i (peer i c)) ∨ ∃ i, g = barCell (peer i c) := by
  unfold O₀ OE OD at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (OC_pos h)
      · exact .inr ⟨2, tally_pos h⟩
    · exact .inr ⟨1, tally_pos h⟩
  · exact .inr ⟨0, tally_pos h⟩

omit [FloatOps F] in
/-- A wait on a staging semaphore is allowed whatever of the launch's debts is open. -/
theorem mayWait_stage (c : Dev nD) (q : DmaSem sig) (hq : ¬ IsRecv q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp]; dsimp only [lv]; rw [if_neg hq])
      (fun g u hg => by
        rcases O₀_pos hg with ⟨i, rfl⟩ | ⟨i, rfl⟩
        · rw [lv_recv]; decide
        · exact Nat.one_pos)
  · rw [MayWait_zero]; iintro -; iempintro

omit [FloatOps F] in
/-- At the barrier wait only receive credits are owed: all above the barrier. -/
theorem mayWait_bar (c : Dev nD) : (levAts L lv : sProp 𝕄) ⊢ MayWait (c : Thread nD τ) (.reg barS) () (OC c) :=
  MayOwe.of_cut (L := L) (lev := lv) 1 (fun p hp => by rw [Finset.mem_singleton.mp hp, L_tc]; exact Finset.mem_singleton_self _)
    (fun g u hg => by obtain ⟨i, rfl⟩ := OC_pos hg; exact Finset.mem_singleton_self _)
    (fun p hp => by rw [Finset.mem_singleton.mp hp]; exact le_refl 1)
    (fun g u hg => by obtain ⟨i, rfl⟩ := OC_pos hg; rw [lv_recv]; decide)

end Cert.TopK

end
-- ==== Proof.Slots.lean ====
/-
The candidate buffer as four slots: one whole buffer is four slots and back; a load and a store of a slot; a copy of slot 0
into another device's slot; slot 0 in four shares. The output's two row blocks.
-/
module

public import proofs.«01_k».proof.Proof.Protocol
public import Idealize.ShloMosaic.Lib.MemrefSat

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## One buffer, four slots -/

theorem slot_disjoint (k k' : Fin 4) (h : k ≠ k') : Disjoint (slotR k).set (slotR k').set :=
  Rect.unit_disjoint (0 : Fin 3) (by
    show k.val + 1 ≤ k'.val ∨ k'.val + 1 ≤ k.val
    have : k.val ≠ k'.val := fun e => h (Fin.ext e)
    omega)

theorem slot_cover : (Finset.univ : Finset (Fin 4)).biUnion (fun k => (slotR k).set) = Finset.univ := by
  ext i
  simp only [Finset.mem_biUnion, Finset.mem_univ, true_and, iff_true]
  refine ⟨i 0, Rect.mem_set_unit.mpr fun a => ?_⟩
  have h1 : (i 1).val < 256 := (i 1).isLt
  have h2 : (i 2).val < 16 := (i 2).isLt
  match a with
  | ⟨0, _⟩ => exact ⟨le_refl _, Nat.lt_succ_self _⟩
  | ⟨1, _⟩ => exact ⟨Nat.zero_le _, by show (i 1).val < 0 + 256; omega⟩
  | ⟨2, _⟩ => exact ⟨Nat.zero_le _, by show (i 2).val < 0 + 16; omega⟩

/-- The whole candidate buffer at any contents is its four slots, each at some contents. -/
theorem slots_split (c : Dev nD) (f : Buf (Elt F) ((c : Thread nD τ).loc cc0_scratch0)) :
    ((((c : Thread nD τ).loc cc0_scratch0) ↦{fullShare} f : sProp 𝕄))
      ⊢ iprop((∃ w, slotPts c 0 fullShare w) ∗ (∃ w, slotPts c 1 fullShare w) ∗ (∃ w, slotPts c 2 fullShare w) ∗ (∃ w, slotPts c 3 fullShare w)) := by
  have h := pointsTo_rects (Ix := Unit) (Name := ℕ) (U := UU) (Lvl := ℕ) (Val := Elt F) (c : Thread nD τ) cM fullShare slotR (fun _ _ => rfl)
    slot_disjoint slot_cover f
  rw [bigSep_univ_eq_bigSepL [0, 1, 2, 3] (by decide) (by decide), bigSepL_cons_cons, bigSepL_cons_cons, bigSepL_cons_cons, bigSepL_singleton] at h
  rw [show cM.view.set = Finset.univ from View.set_whole _] at h
  have h' : ((((c : Thread nD τ).loc cc0_scratch0) ↦{fullShare} f : sProp 𝕄))
      ⊢ iprop(slotPts c 0 fullShare (fun j => cM.view.read (Elt F) f ((slotR 0).emb j)) ∗ slotPts c 1 fullShare (fun j => cM.view.read (Elt F) f ((slotR 1).emb j))
        ∗ slotPts c 2 fullShare (fun j => cM.view.read (Elt F) f ((slotR 2).emb j)) ∗ slotPts c 3 fullShare (fun j => cM.view.read (Elt F) f ((slotR 3).emb j))) :=
    Entails.of_eq h
  iintro H
  ihave H' := h' $$ H
  icases H' with ⟨H0, H1, H2, H3⟩
  isplitl [H0]; · iexists _; iexact H0
  isplitl [H1]; · iexists _; iexact H1
  isplitl [H2]; · iexists _; iexact H2
  iexists _; iexact H3

/-- And back. -/
theorem slots_join (c : Dev nD) (w0 w1 w2 w3 : Vec F S1x256x16 .f32) :
    iprop(slotPts c 0 fullShare w0 ∗ slotPts c 1 fullShare w1 ∗ slotPts c 2 fullShare w2 ∗ slotPts c 3 fullShare w3)
      ⊢ (iprop(∃ f : Buf (Elt F) ((c : Thread nD τ).loc cc0_scratch0), (((c : Thread nD τ).loc cc0_scratch0) ↦{fullShare} f)) : sProp 𝕄) := by
  unfold slotPts owns
  iintro ⟨⟨%f0, -, H0⟩, ⟨%f1, -, H1⟩, ⟨%f2, -, H2⟩, ⟨%f3, -, H3⟩⟩
  have hd : ∀ k ∈ (Finset.univ : Finset (Fin 4)), ∀ k' ∈ (Finset.univ : Finset (Fin 4)), k ≠ k' →
      Disjoint ((slotM k).view.set) ((slotM k').view.set) := fun k _ k' _ h => by
    show Disjoint ((cM.view.slice (slotR k)).set) ((cM.view.slice (slotR k')).set)
    rw [View.set_slice, View.set_slice]; exact (Finset.disjoint_map _).mpr (slot_disjoint k k' h)
  have hu : Finset.biUnion (β := Idx ((c : Thread nD τ).loc cc0_scratch0)) (Finset.univ : Finset (Fin 4)) (fun k => (slotM k).view.set) = Finset.univ := by
    ext i
    simp only [Finset.mem_biUnion, Finset.mem_univ, true_and, iff_true]
    have hi : i ∈ (Finset.univ : Finset (Fin 4)).biUnion (fun k => (slotR k).set) := by rw [slot_cover]; exact Finset.mem_univ _
    obtain ⟨k, -, hk⟩ := Finset.mem_biUnion.mp hi
    refine ⟨k, ?_⟩
    show i ∈ (cM.view.slice (slotR k)).set
    rw [View.set_slice_whole]; exact hk
  have h := pointsTo_biUnion_join (Ix := Unit) (Name := ℕ) (U := UU) (Lvl := ℕ) (Val := Elt F) (ℓ := (c : Thread nD τ).loc cc0_scratch0) (q := fullShare)
    (Finset.univ : Finset (Fin 4)) (fun k => ((slotM k).view.set : Finset (Idx ((c : Thread nD τ).loc cc0_scratch0)))) ![f0, f1, f2, f3] f0 hd
  rw [bigSep_univ_eq_bigSepL [0, 1, 2, 3] (by decide) (by decide), bigSepL_cons_cons, bigSepL_cons_cons, bigSepL_cons_cons, bigSepL_singleton, hu] at h
  have h' : iprop(((slotM 0).view.loc (c : Thread nD τ) ↦[(slotM 0).view.set]{fullShare} f0) ∗ ((slotM 1).view.loc (c : Thread nD τ) ↦[(slotM 1).view.set]{fullShare} f1)
      ∗ ((slotM 2).view.loc (c : Thread nD τ) ↦[(slotM 2).view.set]{fullShare} f2) ∗ ((slotM 3).view.loc (c : Thread nD τ) ↦[(slotM 3).view.set]{fullShare} f3))
      ⊢ (iprop(∃ g : Buf (Elt F) ((c : Thread nD τ).loc cc0_scratch0), ⌜∀ t ∈ (Finset.univ : Finset (Fin 4)), ∀ i ∈ (slotM t).view.set,
          g i = (![f0, f1, f2, f3] : Fin 4 → Buf (Elt F) ((c : Thread nD τ).loc cc0_scratch0)) t i⌝
        ∗ (((c : Thread nD τ).loc cc0_scratch0) ↦{fullShare} g)) : sProp 𝕄) := h
  ihave Hj := h' $$ [H0 H1 H2 H3]
  · isplitl [H0]; · iexact H0
    isplitl [H1]; · iexact H1
    isplitl [H2]; · iexact H2
    iexact H3
  icases Hj with ⟨%g, -, H⟩
  iexists g; iexact H

/-- Slot 0 held whole is the three shares lent and the one kept. -/
theorem slot_lend (c : Dev nD) (w : Vec F S1x256x16 .f32) :
    (slotPts c 0 fullShare w : sProp 𝕄)
      ⊣⊢ iprop(slotPts c 0 (qLend 0) w ∗ slotPts c 0 (qLend 1) w ∗ slotPts c 0 (qLend 2) w ∗ slotPts c 0 qKeep w) := by
  constructor
  · iintro H
    ihave H := (owns_halves (c : Thread nD τ) (slotM 0) _ w).1 $$ H
    icases H with ⟨Ha, Hb⟩
    ihave Ha := (owns_halves (c : Thread nD τ) (slotM 0) _ w).1 $$ Ha
    ihave Hb := (owns_halves (c : Thread nD τ) (slotM 0) _ w).1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply (owns_halves (c : Thread nD τ) (slotM 0) _ w).2
    isplitl [H0 H1]
    · iapply (owns_halves (c : Thread nD τ) (slotM 0) _ w).2
      isplitl [H0]; · iexact H0
      iexact H1
    · iapply (owns_halves (c : Thread nD τ) (slotM 0) _ w).2
      isplitl [H2]; · iexact H2
      iexact H3

/-! ## The slot's effects -/

/-- A load of slot `k` reads what the slot holds. -/
theorem wp_load_slot (c : Dev nD) (k : Fin 4) (q : PosShare TreeShare) (w : Vec F S1x256x16 .f32) {α : Type} {Q : α → sProp 𝕄}
    {hl : cM.view.LoadsAt (slotR k).toLoadRect} {kt : Vec F S1x256x16 .f32 → Prog (TpuEff nD τ sig (Elt F) Λ₀ .tc) α} :
    (slotPts c k q w)
      ⊢ iprop((slotPts c k q w -∗ wp frame (wpE (defs₀ (F := F)) 𝒱₀ (c : Thread nD τ) none) Set.univ (kt w) Q)
          -∗ wp frame (wpE (defs₀ (F := F)) 𝒱₀ (c : Thread nD τ) none) Set.univ (.op (.load cM (slotR k).toLoadRect hl) kt) Q) := by
  unfold slotPts owns
  iintro ⟨%f, %hf, H⟩ Hk
  subst hf
  iapply (wp_load_rect 𝒱₀ (c : Thread nD τ) none Set.univ (m := cM) (r := slotR k) (Finset.Subset.refl _)) $$ H
  iintro H
  iapply Hk
  iexists f
  isplitr; · (ipureintro; rfl)
  iexact H

/-- A store of slot `k` leaves the slot holding the stored value. -/
theorem wp_store_slot (c : Dev nD) (k : Fin 4) (w' w : Vec F S1x256x16 .f32) {α : Type} {Q : α → sProp 𝕄}
    {hx : (cM.access (slotR k)).Stores Finset.univ} {hm : (Finset.univ : Finset (slotR k).shape.Idx) = Finset.univ ∨ ∀ a, (slotR k).stride a = 1}
    {kt : PUnit → Prog (TpuEff nD τ sig (Elt F) Λ₀ .tc) α} :
    (slotPts c k fullShare w')
      ⊢ iprop((slotPts c k fullShare w -∗ wp frame (wpE (defs₀ (F := F)) 𝒱₀ (c : Thread nD τ) none) Set.univ (kt ⟨⟩) Q)
          -∗ wp frame (wpE (defs₀ (F := F)) 𝒱₀ (c : Thread nD τ) none) Set.univ (.op (.store cM (slotR k) w Finset.univ hx hm) kt) Q) := by
  unfold slotPts owns
  iintro ⟨%f, %hf, H⟩ Hk
  iapply (wp_store 𝒱₀ (c : Thread nD τ) none Set.univ (m := cM) (r := slotR k) (Mk := Finset.univ)
    (S := (slotM k).view.set) (f := f) (Finset.Subset.refl _)) $$ H
  iintro H
  iapply Hk
  iexists _
  isplitr
  rotate_left 1
  · iexact H
  · ipureintro
    exact View.read_write_univ (v := cM.access (slotR k)) f w

/-- A copy through the 256×16 faces of two slots moves the slot's 1×256×16 contents. -/
theorem copy_read (i : Fin 4) (fs fd : (cc0_scratch0 : Ref sig .tc).ty.Contents (Elt F)) :
    (slotM i).view.read (Elt F) ((flatM i).view.write (Elt F) fd ((flatM 0).view.read (Elt F) fs) Finset.univ) = (slotM 0).view.read (Elt F) fs := by
  have h : ∀ (k : Fin 4) (f : (cc0_scratch0 : Ref sig .tc).ty.Contents (Elt F)) (y : S256x16.Idx), (flatM k).view.read (Elt F) f y
      = (slotM k).view.read (Elt F) f (Shape.reshapeEquiv squeezes_S1x256x16_S256x16.numel_eq y) := fun _ _ _ => rfl
  funext x
  obtain ⟨y, rfl⟩ := (Shape.reshapeEquiv squeezes_S1x256x16_S256x16.numel_eq).surjective x
  rw [← h, ← h, View.read_write_univ]

variable (m : (ℓ : Loc nD τ sig) → Buf (Elt F) ℓ) (ρ : Dev nD → PrngReg)

/-- Copy `i`, addressed to `n`, which is peer `i` of `c`: it pays the device's send cell with the lent share of slot 0 and the
    peer's receive cell with the peer's slot holding `c`'s candidates. -/
theorem wp_copy (K : Dev nD × Fin 7 → ℕ) (i : Fin 3) (c n : Dev nD) (hn : n = peer i c)
    {hsc : (flatM i.succ : Memref sig (Dev.tc n : Thread nD τ).2.kind .vmem S256x16 .f32).view.ref.isScScratch = false}
    {hsrc : (flatM 0).view.WordExact} {hdst : (flatM i.succ).view.WordExact}
    {hsem : DmaTarget.Typed .vmem (.dma (recvS i)) (.remote (Dev.tc n : Thread nD τ) (flatM i.succ) (.dma (sendS i)) hsc)}
    {α : Type} {Q : α → sProp 𝕄} {kt : PUnit → Prog (TpuEff nD τ sig (Elt F) Λ₀ .tc) α}
    (O O' : CellTallies nD τ sig Unit) (hO : O' = O + tallyAt (recvCell i (peer i c)) () N) (W : Waits sig Unit) :
    iprop(cellInv ER (Rd m ρ) (K (c, sIx i)) (sendCell i c) ∗ cellInv ER (Rd m ρ) (K (peer i c, rIx i)) (recvCell i (peer i c))
        ∗ slotPts c 0 (qLend i) (cand m ρ c) ∗ (∃ w, slotPts (peer i c) i.succ fullShare w)
        ∗ owes (c : Thread nD τ) O' W
        ∗ dutyTok ER (sendCell i c) 0 0 ∗ reached ER (sendCell i c) 0
        ∗ dutyTok ER (recvCell i (peer i c)) 0 0 ∗ reached ER (recvCell i (peer i c)) 0)
      ⊢ iprop(((cred (tallyAt (sendCell i c) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (flatM 0) (.remote (Dev.tc n : Thread nD τ) (flatM i.succ) (.dma (sendS i)) hsc) (.dma (recvS i)) hsrc hdst hsem) kt) Q) := by
  subst hn
  iintro ⟨HI1, HI2, Hs, ⟨%w, Hd⟩, Ho, Ht1, Hr1, Ht2, Hr2⟩
  unfold slotPts owns
  icases Hs with ⟨%fs, %hfs, Hs⟩
  icases Hd with ⟨%fd, -, Hd⟩
  have hset : ∀ k : Fin 4, (flatM k).view.set = (slotM k).view.set := fun k => View.set_reshape _ _
  iapply (Rounds.wp_send_pointsTo 𝒱₀ ER (Rd m ρ) (c : Thread nD τ) none (src := flatM 0) (dst := flatM i.succ)
    (c' := (peer i c : Thread nD τ)) (κ₁ := K (c, sIx i)) (κ₂ := K (peer i c, rIx i))
    (q := qLend i) (fs := fs) (fd := fd)
    (r₁ := 0) (r₂ := 0) (d₁ := 0) (d₂ := 0)
    (by rw [duties_send]; exact Finset.mem_singleton_self _) (by rw [duties_recv]; exact Finset.mem_singleton_self _)
    () () N rfl (amount_send m ρ i c 0) (amount_recv m ρ i (peer i c) 0) O hO (W := W)
    (by
      rw [payload_send]; unfold sendPay slotPts
      rw [hset, ← hfs]
      exact owns_intro (c : Thread nD τ) (slotM 0) (qLend i) fs)
    (by
      rw [payload_recv]; unfold recvPay slotPts
      rw [hset, peer_peer, ← hfs, ← copy_read i.succ fs fd]
      exact owns_intro (peer i c : Thread nD τ) (slotM i.succ) fullShare _))
  isplitl [HI1]; · iexact HI1
  isplitl [HI2]; · iexact HI2
  isplitl [Hs]; · rw [hset]; iexact Hs
  isplitl [Hd]; · rw [hset]; iexact Hd
  isplitl [Ho]; · iexact Ho
  isplitl [Ht1]; · iexact Ht1
  isplitl [Hr1]; · iexact Hr1
  isplitl [Ht2]; · iexact Ht2
  iexact Hr2

/-! ## The output buffer's two halves -/

theorem ownR_mem (c : Dev nD) (i : S512x16.Idx) : i ∈ (ownR c).set ↔ (i 0).val / 256 = c.val / 2 := by
  have h0 : (i 0).val < 512 := (i 0).isLt
  have h1 : (i 1).val < 16 := (i 1).isLt
  have hc : c.val < 4 := c.isLt
  rw [Rect.mem_set_unit, k0_off33_eq, Fin.forall_fin_two]
  show (256 * (c.val / 2) ≤ (i 0).val ∧ (i 0).val < 256 * (c.val / 2) + 256) ∧ (0 ≤ (i 1).val ∧ (i 1).val < 0 + 16) ↔ _
  omega
theorem otherR_mem (c : Dev nD) (i : S512x16.Idx) : i ∈ (otherR c).set ↔ ¬ (i 0).val / 256 = c.val / 2 := by
  have h0 : (i 0).val < 512 := (i 0).isLt
  have h1 : (i 1).val < 16 := (i 1).isLt
  have hc : c.val < 4 := c.isLt
  rw [Rect.mem_set_unit, k0_off34_eq, Fin.forall_fin_two]
  show (256 - 256 * (c.val / 2) ≤ (i 0).val ∧ (i 0).val < 256 - 256 * (c.val / 2) + 256) ∧ (0 ≤ (i 1).val ∧ (i 1).val < 0 + 16) ↔ _
  omega

/-- The output buffer after both stores, written out by index: rows of `c`'s row block hold the merge of its own candidates
    with peer 0's, the other rows the merge of peers 1's and 2's. -/
def outOf (c : Dev nD) (A B : Vec F S256x16 .f32) : (cc0_stg1_0 : Ref sig .tc).ty.Contents (Elt F) := fun i =>
  let j : S256x16.Idx := fun | 0 => ⟨(i 0).val % 256, Nat.mod_lt _ (by decide)⟩ | 1 => i 1
  if (i 0).val / 256 = c.val / 2 then A j else B j

/-- Both stores, over whatever the buffer held before. -/
theorem write_both (c : Dev nD) (f : (cc0_stg1_0 : Ref sig .tc).ty.Contents (Elt F)) (A B : Vec F S256x16 .f32) :
    (oM.access (otherR c)).write (Elt F) ((oM.access (ownR c)).write (Elt F) f A Finset.univ) B Finset.univ = outOf c A B := by
  have hc : c.val < 4 := c.isLt
  funext i
  have h0 : (i 0).val < 512 := (i 0).isLt
  by_cases h : (i 0).val / 256 = c.val / 2
  · have hn : i ∉ (oM.access (otherR c)).setOn Finset.univ := fun hm => by
      rw [View.setOn_univ, View.set_slice_whole] at hm
      exact (otherR_mem c i).mp hm h
    rw [View.write_of_not_mem _ _ _ hn]
    obtain ⟨x, rfl⟩ := (ownR c).exists_idx_of_mem ((ownR_mem c i).mpr h)
    refine ((oM.access (ownR c)).write_emb_of_mem (Val := Elt F) f A (Finset.mem_univ x)).trans ?_
    unfold outOf
    rw [if_pos h]
    refine congrArg A (funext fun a => Fin.ext ?_)
    have e0 : (((ownR c).idx x) 0).val = k0_off33 c 0 + 1 * (x 0).val := rfl
    have hx : (x 0).val < 256 := (x 0).isLt
    have e1 : (((ownR c).idx x) 1).val = k0_off33 c 1 + 1 * (x 1).val := rfl
    rw [k0_off33_eq] at e0 e1
    match a with
    | ⟨0, _⟩ =>
      show (x 0).val = (((ownR c).idx x) 0).val % 256
      rw [e0]; show (x 0).val = (256 * (c.val / 2) + 1 * (x 0).val) % 256; omega
    | ⟨1, _⟩ =>
      show (x 1).val = (((ownR c).idx x) 1).val
      rw [e1]; show (x 1).val = 0 + 1 * (x 1).val; omega
  · obtain ⟨x, rfl⟩ := (otherR c).exists_idx_of_mem ((otherR_mem c i).mpr h)
    refine ((oM.access (otherR c)).write_emb_of_mem (Val := Elt F) _ B (Finset.mem_univ x)).trans ?_
    unfold outOf
    rw [if_neg h]
    refine congrArg B (funext fun a => Fin.ext ?_)
    have e0 : (((otherR c).idx x) 0).val = k0_off34 c 0 + 1 * (x 0).val := rfl
    have hx : (x 0).val < 256 := (x 0).isLt
    have e1 : (((otherR c).idx x) 1).val = k0_off34 c 1 + 1 * (x 1).val := rfl
    rw [k0_off34_eq] at e0 e1
    match a with
    | ⟨0, _⟩ =>
      show (x 0).val = (((otherR c).idx x) 0).val % 256
      rw [e0]; show (x 0).val = (256 - 256 * (c.val / 2) + 1 * (x 0).val) % 256; omega
    | ⟨1, _⟩ =>
      show (x 1).val = (((otherR c).idx x) 1).val
      rw [e1]; show (x 1).val = 0 + 1 * (x 1).val; omega

/-- What device `c`'s output holds at the end. -/
def outAt (c : Dev nD) : (cc0_stg1_0 : Ref sig .tc).ty.Contents (Elt F) :=
  outOf c (mergeLocal (cand m ρ c) (cand m ρ (peer 0 c))) (mergeRemote (cand m ρ (peer 1 c)) (cand m ρ (peer 2 c)))

end Cert.TopK

end
-- ==== Proof.Body.lean ====
/-
The body of one device, run effect by effect: three signals, the slabs, the candidates' store, the barrier wait, three copies,
the merges between the receive waits, the send waits; every cell of the device closes at zero.
-/
module

public import proofs.«01_k».proof.Proof.Slots

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is shared, what a device starts from -/

/-- The invariants of all cells at the names `K`, and that every cell is at round 0: known to all devices for good. -/
def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

section Records
variable (K : Dev nD × Fin 7 → ℕ) (i : Fin 3) (c : Dev nD)

theorem rec_inv (ck : Dev nD × Fin 7) : records m ρ K ⊢ cellInv ER (Rd m ρ) (K ck) (kcell ck) := by
  unfold records
  iintro ⟨H, -⟩
  iapply (show (bigSep Finset.univ fun ck : Dev nD × Fin 7 => (cellInv ER (Rd m ρ) (K ck) (kcell ck) : sProp 𝕄)) ⊢ cellInv ER (Rd m ρ) (K ck) (kcell ck) from
    bigSep_elim (Finset.mem_univ ck)); iexact H
theorem rec_reached (ck : Dev nD × Fin 7) : records m ρ K ⊢ reached ER (kcell ck) 0 := by
  unfold records
  iintro ⟨-, H⟩
  iapply (show (bigSep Finset.univ fun ck : Dev nD × Fin 7 => (reached ER (kcell ck) 0 : sProp 𝕄)) ⊢ reached ER (kcell ck) 0 from
    bigSep_elim (Finset.mem_univ ck)); iexact H

theorem inv_bar : records m ρ K ⊢ cellInv ER (Rd m ρ) (K (c, 0)) (barCell c) := rec_inv m ρ K (c, 0)
theorem inv_send : records m ρ K ⊢ cellInv ER (Rd m ρ) (K (c, sIx i)) (sendCell i c) := by rw [← kcell_s]; exact rec_inv m ρ K (c, sIx i)
theorem inv_recv : records m ρ K ⊢ cellInv ER (Rd m ρ) (K (c, rIx i)) (recvCell i c) := by rw [← kcell_r]; exact rec_inv m ρ K (c, rIx i)
theorem reached_bar : records m ρ K ⊢ reached ER (barCell c) 0 := rec_reached m ρ K (c, 0)
theorem reached_send : records m ρ K ⊢ reached ER (sendCell i c) 0 := by rw [← kcell_s]; exact rec_reached m ρ K (c, sIx i)
theorem reached_recv : records m ρ K ⊢ reached ER (recvCell i c) 0 := by rw [← kcell_r]; exact rec_reached m ρ K (c, rIx i)

/-- A cell whose round is over closes: its counter at zero is the device's again. -/
theorem close_cell (k : Fin 7) : iprop(records m ρ K ∗ atPos ER (kcell (c, k)) (0 + 1) ∅ 0) ⊢ (|={Set.univ}=> semVal (kcell (c, k)) 0 : sProp 𝕄) := by
  iintro ⟨#HR, Ha⟩
  iapply (Rounds.cell_close ER (Rd m ρ) (Set.mem_univ (K (c, k))) (fun h => h) (R := 0 + 1) (duties_later m ρ (kcell (c, k))))
  isplitr; · iapply (rec_inv m ρ K (c, k)); iexact HR
  iexact Ha

end Records

/-- The tokens of the duties device `c` pays: each peer's barrier, each peer's receive cell, its own send cells. -/
def payToks (c : Dev nD) : sProp 𝕄 :=
  iprop((dutyTok ER (barCell (peer 0 c)) 0 0 ∗ dutyTok ER (barCell (peer 1 c)) 0 1 ∗ dutyTok ER (barCell (peer 2 c)) 0 2)
    ∗ (dutyTok ER (sendCell 0 c) 0 0 ∗ dutyTok ER (sendCell 1 c) 0 0 ∗ dutyTok ER (sendCell 2 c) 0 0)
    ∗ (dutyTok ER (recvCell 0 (peer 0 c)) 0 0 ∗ dutyTok ER (recvCell 1 (peer 1 c)) 0 0 ∗ dutyTok ER (recvCell 2 (peer 2 c)) 0 0))

/-- What is device `c`'s alone: its positions at round 0 of its seven cells and the tokens it pays with. -/
def linear (c : Dev nD) : sProp 𝕄 :=
  iprop((bigSep Finset.univ fun k : Fin 7 => atPos ER (kcell (c, k)) 0 ∅ 0) ∗ payToks c)

/-- The credits a device may wait on from the start. -/
def startCreds (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 :=
  iprop((∃ K, records m ρ K ∗ linear c) ∗ startCreds c ∗ levAts L lv)

abbrev scrAny (c : Dev nD) : sProp 𝕄 := iprop(∃ f : Buf (Elt F) ((c : Thread nD τ).loc cc0_scratch0), (((c : Thread nD τ).loc cc0_scratch0) ↦{fullShare} f))

def Φ₀ (c : Dev nD) : sProp 𝕄 := iprop(start m ρ c ∗ scrAny c)
/-- After the body: the candidate buffer at whatever it holds, and all seven counters at zero. -/
def Φ₁ (c : Dev nD) : sProp 𝕄 := iprop(scrAny c ∗ bigSep Finset.univ fun k : Fin 7 => semVal (kcell (c, k)) 0)

/-- The launch's data: arrays as they start, the staged argument kept, the output at `outAt`, nothing owed at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_ex (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The waits on the transfer cells -/

section Waits
variable (K : Dev nD × Fin 7 → ℕ) (i : Fin 3) (c : Dev nD)

/-- The wait on receive cell `i`, owing nothing: slot `i + 1` arrives with peer `i`'s candidates. -/
theorem wp_wait_recv (k : Fin 4) (hk : k = i.succ) {α : Type} {Q : α → sProp 𝕄} {h1 h2} {kt : PUnit → Prog (TpuEff nD τ sig (Elt F) Λ₀ .tc) α} :
    iprop(records m ρ K ∗ cred (tallyAt (recvCell i c) () N) ∗ (∃ W, owes (c : Thread nD τ) 0 W) ∗ atPos ER (recvCell i c) 0 ∅ 0)
      ⊢ iprop((((∃ W, owes (c : Thread nD τ) 0 W) ∗ atPos ER (recvCell i c) (0 + 1) ∅ 0 ∗ slotPts c k fullShare (cand m ρ (peer i c)))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (recvS i) (flatM 0) (flatM i.succ) h1 h2) kt) Q) := by
  subst hk
  iintro ⟨#HR, Hc, ⟨%W, HO⟩, Ha⟩ Hk
  iapply (Rounds.wp_wait_rest_token 𝒱₀ ER (Rd m ρ) (c : Thread nD τ) none (κ := K (c, rIx i))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iapply (inv_recv m ρ K i c); iexact HR
    isplitl [Hc]; · iexact Hc
    isplitl [HO]; · iexact HO
    isplitr; · rw [MayWait_zero]; iempintro
    iexact Ha
  iintro ⟨HO, Ha, -, Hp⟩
  ihave Hp := (Entails.of_eq (rest_recv m ρ i c)) $$ Hp
  iapply Hk
  isplitl [HO]; · iexists _; iexact HO
  isplitl [Ha]; · iexact Ha
  unfold recvPay; iexact Hp

/-- The wait on send cell `i`, owing nothing: the lent share of slot 0 comes back. -/
theorem wp_wait_send {α : Type} {Q : α → sProp 𝕄} {h1 h2} {kt : PUnit → Prog (TpuEff nD τ sig (Elt F) Λ₀ .tc) α} :
    iprop(records m ρ K ∗ cred (tallyAt (sendCell i c) () N) ∗ (∃ W, owes (c : Thread nD τ) 0 W) ∗ atPos ER (sendCell i c) 0 ∅ 0)
      ⊢ iprop((((∃ W, owes (c : Thread nD τ) 0 W) ∗ atPos ER (sendCell i c) (0 + 1) ∅ 0 ∗ slotPts c 0 (qLend i) (cand m ρ c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sendS i) (flatM i.succ) (flatM 0) h1 h2) kt) Q) := by
  iintro ⟨#HR, Hc, ⟨%W, HO⟩, Ha⟩ Hk
  iapply (Rounds.wp_wait_rest_token 𝒱₀ ER (Rd m ρ) (c : Thread nD τ) none (κ := K (c, sIx i))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iapply (inv_send m ρ K i c); iexact HR
    isplitl [Hc]; · iexact Hc
    isplitl [HO]; · iexact HO
    isplitr; · rw [MayWait_zero]; iempintro
    iexact Ha
  iintro ⟨HO, Ha, -, Hp⟩
  ihave Hp := (Entails.of_eq (rest_send m ρ i c)) $$ Hp
  iapply Hk
  isplitl [HO]; · iexists _; iexact HO
  isplitl [Ha]; · iexact Ha
  unfold sendPay; iexact Hp

end Waits

/-! ## The body -/

section Body
variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m ρ K ∗ linear c ∗ startCreds c ∗ levAts L lv ∗ scrAny c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 4000000 in
set_option maxRecDepth 65536 in
/-- The body on device `c`, from `bodyPre` to `bodyPost`. -/
theorem sound_body (c : Dev nD) (Kt : PUnit → sProp 𝕄) :
    iprop(bodyPre m ρ K c ∗ (bodyPost m ρ c -∗ Kt ⟨⟩)) ⊢ wp frame (wpE (defs₀ (F := F)) 𝒱₀ c none) Set.univ flat Kt := by
  unfold flat
  simp only [semSignalWord, semWaitWord, Prog.lift, Prog.bind_op, Prog.bind_ret, Prog.pure_eq_ret, wp_deviceId]
  unfold bodyPre linear startCreds payToks
  rw [seven]
  iintro ⟨⟨⟨#HR, ⟨⟨HaB, HaS0, HaS1, HaS2, HaR0, HaR1, HaR2⟩, ⟨HtB0, HtB1, HtB2⟩, ⟨HtS0, HtS1, HtS2⟩, HtR0, HtR1, HtR2⟩, ⟨HcB, HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  simp only [dev1_eq c, dev2_eq c, dev3_eq c]
  ihave Hscr := (slots_split c f0) $$ Hscr
  icases Hscr with ⟨⟨%w0, Hs0⟩, Hs1, Hs2, Hs3⟩
  -- signal peer 0: slot 1 goes with it
  unfold O₀
  iapply (Rounds.wp_signal 𝒱₀ ER (Rd m ρ) (c : Thread nD τ) none (dst := (peer 0 c : Thread nD τ)) (κ := K (peer 0 c, 0))
      (d := 0) (by rw [duties_bar]; exact Finset.mem_univ _) ((amount_bar m ρ (peer 0 c) 0).trans (by decide)) () (OE c) rfl)
    $$ [HO HtB0 Hs1]
  · isplitr; · iapply (inv_bar m ρ K (peer 0 c)); iexact HR
    isplitl [HO]; · iexact HO
    isplitl [HtB0]; · iexact HtB0
    isplitl [Hs1]
    · rw [payload_bar]; unfold barPay; rw [peer_peer]
      isplitl [Hs1]; · iexact Hs1
      iapply (reached_recv m ρ K 0 c); iexact HR
    · iapply (reached_bar m ρ K (peer 0 c)); iexact HR
  iintro HO
  -- signal peer 1: slot 2 goes with it
  unfold OE
  iapply (Rounds.wp_signal 𝒱₀ ER (Rd m ρ) (c : Thread nD τ) none (dst := (peer 1 c : Thread nD τ)) (κ := K (peer 1 c, 0))
      (d := 1) (by rw [duties_bar]; exact Finset.mem_univ _) ((amount_bar m ρ (peer 1 c) 1).trans (by decide)) () (OD c) rfl)
    $$ [HO HtB1 Hs2]
  · isplitr; · iapply (inv_bar m ρ K (peer 1 c)); iexact HR
    isplitl [HO]; · iexact HO
    isplitl [HtB1]; · iexact HtB1
    isplitl [Hs2]
    · rw [payload_bar]; unfold barPay; rw [peer_peer]
      isplitl [Hs2]; · iexact Hs2
      iapply (reached_recv m ρ K 1 c); iexact HR
    · iapply (reached_bar m ρ K (peer 1 c)); iexact HR
  iintro HO
  -- signal peer 2: slot 3 goes with it
  unfold OD
  iapply (Rounds.wp_signal 𝒱₀ ER (Rd m ρ) (c : Thread nD τ) none (dst := (peer 2 c : Thread nD τ)) (κ := K (peer 2 c, 0))
      (d := 2) (by rw [duties_bar]; exact Finset.mem_univ _) ((amount_bar m ρ (peer 2 c) 2).trans (by decide)) () (OC c) rfl)
    $$ [HO HtB2 Hs3]
  · isplitr; · iapply (inv_bar m ρ K (peer 2 c)); iexact HR
    isplitl [HO]; · iexact HO
    isplitl [HtB2]; · iexact HtB2
    isplitl [Hs3]
    · rw [payload_bar]; unfold barPay; rw [peer_peer]
      isplitl [Hs3]; · iexact Hs3
      iapply (reached_recv m ρ K 2 c); iexact HR
    · iapply (reached_bar m ρ K (peer 2 c)); iexact HR
  iintro HO
  -- the slabs
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  -- the candidates into slot 0
  iapply (wp_load_slot c 0 fullShare w0) $$ Hs0; iintro Hs0
  iapply (wp_store_slot c 0 w0 (cand m ρ c)) $$ Hs0; iintro Hs0
  -- the barrier: the three peers' slots come with it
  iapply (Rounds.wp_wait_rest_token 𝒱₀ ER (Rd m ρ) (c : Thread nD τ) none (κ := K (c, 0))
      (wpE_semWait_eq 𝒱₀ (c : Thread nD τ) none Set.univ) (Set.mem_univ _) () (O := OC c) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨Hn0, -⟩, ⟨Hn1, -⟩, ⟨Hn2, -⟩⟩
  ihave Hs0 := (slot_lend c (cand m ρ c)).1 $$ Hs0
  icases Hs0 with ⟨Hq0, Hq1, Hq2, Hqk⟩
  -- copy 0
  iapply (wp_copy m ρ K 0 c _ (dev4_eq c) (OB c) (OC c) rfl (insert (SemLoc.reg barS, ()) W)) $$ [Hq0 Hn0 HO HtS0 HtR0]
  · isplitr; · iapply (inv_send m ρ K 0 c); iexact HR
    isplitr; · iapply (inv_recv m ρ K 0 (peer 0 c)); iexact HR
    isplitl [Hq0]; · iexact Hq0
    isplitl [Hn0]; · iexact Hn0
    isplitl [HO]; · iexact HO
    isplitl [HtS0]; · iexact HtS0
    isplitr; · iapply (reached_send m ρ K 0 c); iexact HR
    isplitl [HtR0]; · iexact HtR0
    iapply (reached_recv m ρ K 0 (peer 0 c)); iexact HR
  iintro ⟨HcS0, HO⟩
  -- copy 1
  iapply (wp_copy m ρ K 1 c _ (dev5_eq c) (OA c) (OB c) rfl (insert (SemLoc.reg barS, ()) W)) $$ [Hq1 Hn1 HO HtS1 HtR1]
  · isplitr; · iapply (inv_send m ρ K 1 c); iexact HR
    isplitr; · iapply (inv_recv m ρ K 1 (peer 1 c)); iexact HR
    isplitl [Hq1]; · iexact Hq1
    isplitl [Hn1]; · iexact Hn1
    isplitl [HO]; · iexact HO
    isplitl [HtS1]; · iexact HtS1
    isplitr; · iapply (reached_send m ρ K 1 c); iexact HR
    isplitl [HtR1]; · iexact HtR1
    iapply (reached_recv m ρ K 1 (peer 1 c)); iexact HR
  iintro ⟨HcS1, HO⟩
  -- copy 2
  iapply (wp_copy m ρ K 2 c _ (dev6_eq c) (0) (OA c) (by rw [zero_add]; rfl) (insert (SemLoc.reg barS, ()) W)) $$ [Hq2 Hn2 HO HtS2 HtR2]
  · isplitr; · iapply (inv_send m ρ K 2 c); iexact HR
    isplitr; · iapply (inv_recv m ρ K 2 (peer 2 c)); iexact HR
    isplitl [Hq2]; · iexact Hq2
    isplitl [Hn2]; · iexact Hn2
    isplitl [HO]; · iexact HO
    isplitl [HtS2]; · iexact HtS2
    isplitr; · iapply (reached_send m ρ K 2 c); iexact HR
    isplitl [HtR2]; · iexact HtR2
    iapply (reached_recv m ρ K 2 (peer 2 c)); iexact HR
  iintro ⟨HcS2, HO⟩
  ihave HO := (show owes (c : Thread nD τ) 0 (insert (SemLoc.reg barS, ()) W) ⊢ (iprop(∃ W, owes (c : Thread nD τ) 0 W) : sProp 𝕄) from by
    iintro H; iexists _; iexact H) $$ HO
  -- the first merge
  iapply (wp_wait_recv m ρ K 0 c 1 rfl) $$ [HcR0 HO HaR0]
  · isplitr; · iexact HR
    isplitl [HcR0]; · iexact HcR0
    isplitl [HO]; · iexact HO
    iexact HaR0
  iintro ⟨HO, HaR0, Hs1⟩
  iapply (wp_load_slot c 0 qKeep _) $$ Hqk; iintro Hqk
  iapply (wp_load_slot c 1 fullShare _) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := ownR c) (Mk := Finset.univ) (Finset.subset_univ _)) $$ Hout; iintro Hout
  -- the second merge
  iapply (wp_wait_recv m ρ K 1 c 2 rfl) $$ [HcR1 HO HaR1]
  · isplitr; · iexact HR
    isplitl [HcR1]; · iexact HcR1
    isplitl [HO]; · iexact HO
    iexact HaR1
  iintro ⟨HO, HaR1, Hs2⟩
  iapply (wp_wait_recv m ρ K 2 c 3 rfl) $$ [HcR2 HO HaR2]
  · isplitr; · iexact HR
    isplitl [HcR2]; · iexact HcR2
    isplitl [HO]; · iexact HO
    iexact HaR2
  iintro ⟨HO, HaR2, Hs3⟩
  iapply (wp_load_slot c 2 fullShare _) $$ Hs2; iintro Hs2
  iapply (wp_load_slot c 3 fullShare _) $$ Hs3; iintro Hs3
  iapply (wp_load 𝒱₀ (c : Thread nD τ) none Set.univ (m := oM) (Finset.subset_univ _)) $$ Hout; iintro Hout
  iapply (wp_store 𝒱₀ (c : Thread nD τ) none Set.univ (m := oM) (r := otherR c) (Mk := Finset.univ) (Finset.subset_univ _)) $$ Hout; iintro Hout
  -- the sends
  iapply (wp_wait_send m ρ K 0 c) $$ [HcS0 HO HaS0]
  · isplitr; · iexact HR
    isplitl [HcS0]; · iexact HcS0
    isplitl [HO]; · iexact HO
    iexact HaS0
  iintro ⟨HO, HaS0, Hq0⟩
  iapply (wp_wait_send m ρ K 1 c) $$ [HcS1 HO HaS1]
  · isplitr; · iexact HR
    isplitl [HcS1]; · iexact HcS1
    isplitl [HO]; · iexact HO
    iexact HaS1
  iintro ⟨HO, HaS1, Hq1⟩
  iapply (wp_wait_send m ρ K 2 c) $$ [HcS2 HO HaS2]
  · isplitr; · iexact HR
    isplitl [HcS2]; · iexact HcS2
    isplitl [HO]; · iexact HO
    iexact HaS2
  iintro ⟨HO, HaS2, Hq2⟩
  ihave Hs0 := (slot_lend c (cand m ρ c)).2 $$ [Hq0 Hq1 Hq2 Hqk]
  · isplitl [Hq0]; · iexact Hq0
    isplitl [Hq1]; · iexact Hq1
    isplitl [Hq2]; · iexact Hq2
    iexact Hqk
  ihave Hscr := (slots_join c _ _ _ _) $$ [Hs0 Hs1 Hs2 Hs3]
  · isplitl [Hs0]; · iexact Hs0
    isplitl [Hs1]; · iexact Hs1
    isplitl [Hs2]; · iexact Hs2
    iexact Hs3
  -- the seven cells close
  imod (close_cell m ρ K c 0) $$ [HaB] with Hz0
  · isplitr; · iexact HR
    iexact HaB
  imod (close_cell m ρ K c 1) $$ [HaS0] with Hz1
  · isplitr; · iexact HR
    iexact HaS0
  imod (close_cell m ρ K c 2) $$ [HaS1] with Hz2
  · isplitr; · iexact HR
    iexact HaS1
  imod (close_cell m ρ K c 3) $$ [HaS2] with Hz3
  · isplitr; · iexact HR
    iexact HaS2
  imod (close_cell m ρ K c 4) $$ [HaR0] with Hz4
  · isplitr; · iexact HR
    iexact HaR0
  imod (close_cell m ρ K c 5) $$ [HaR1] with Hz5
  · isplitr; · iexact HR
    iexact HaR1
  imod (close_cell m ρ K c 6) $$ [HaR2] with Hz6
  · isplitr; · iexact HR
    iexact HaR2
  rw [write_both, wp_ret]; imodintro
  iapply Hk
  unfold bodyPost Φ₁ Dat.owesAt Pipeline.owesWithin
  rw [show (dats m ρ 0 c).owed t0_0.succ = 0 from rfl, seven]
  isplitl [Hscr Hz0 Hz1 Hz2 Hz3 Hz4 Hz5 Hz6]
  · isplitl [Hscr]; · iexact Hscr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
/-- The launch theorem's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_ex]
  show bodyPre' m ρ c ⊢ wp frame (wpE (defs₀ (F := F)) 𝒱₀ c none) Set.univ
    (cc0_body (F := F) xM (Memref.isWhole_whole _) oM (Memref.isWhole_whole _) cM (Memref.isWhole_whole _) cc0_scratch1 cc0_scratch2) (fun _ => bodyPost m ρ c)
  rw [body_eq_flat]
  unfold bodyPre' Φ₀ start
  iintro ⟨⟨⟨⟨%K, Hr, Hl⟩, Hc, Hlev⟩, Hscr⟩, Ho, Hx, Hout⟩
  iapply (sound_body m ρ K c fun _ => bodyPost m ρ c)
  unfold bodyPre
  isplitr []
  · isplitl [Hr Hl Hc Hlev Hscr]
    · isplitl [Hr]; · iexact Hr
      isplitl [Hl]; · iexact Hl
      isplitl [Hc]; · iexact Hc
      isplitl [Hlev]; · iexact Hlev
      iexact Hscr
    isplitl [Ho]; · iexact Ho
    isplitl [Hx] <;> iassumption
  · iintro H; iexact H

end Body

end Cert.TopK

end
-- ==== Proof.Launch.lean ====
/-
The launch: the protocol's tokens and invariants set up for all four devices, the launch credits counted, and the run of the
whole program from any memory with zero counters.
-/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Allocation -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's own cells, nine in all: which semaphore, which duty. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
abbrev tokOf (cj : Dev nD × Fin 9) : GSem nD τ sig × ℕ × Fin 3 := (((cj.1 : Thread nD τ), (tokSem cj.2).1), 0, (tokSem cj.2).2)
theorem tokSem_injective : Function.Injective tokSem := by decide
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  have h2 : j = j' := tokSem_injective (congrArg (fun x : GSem nD τ sig × ℕ × Fin 3 => (x.1.2, x.2.2)) h)
  rw [h1, h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

theorem toks_eq (c : Dev nD) : (bigSep Finset.univ fun j : Fin 9 => (dutyTok ER (tokOf (c, j)).1 (tokOf (c, j)).2.1 (tokOf (c, j)).2.2 : sProp 𝕄)) ⊢ toks c := by
  rw [bigSep_univ_eq_bigSepL [0, 1, 2, 3, 4, 5, 6, 7, 8] (by decide) (by decide)]
  unfold toks
  show iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0) ⊢ _
  iintro ⟨B0, B1, B2, S0, S1, S2, R0, R1, R2⟩
  isplitl [B0 B1 B2]
  · isplitl [B0]; · iexact B0
    isplitl [B1] <;> iassumption
  isplitl [S0 S1 S2]
  · isplitl [S0]; · iexact S0
    isplitl [S1] <;> iassumption
  isplitl [R0]; · iexact R0
  isplitl [R1] <;> iassumption

/-- What the launch deals device `c`, -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)
/-- and what the step over all devices makes of it. -/
def G' (c : Dev nD) : sProp 𝕄 := iprop(∃ K, records m ρ K ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own counters are the six transfer cells', the one counter left to the launch the barrier cell's. -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The seven counters of a device, one by one. -/
theorem seven_sems (c : Dev nD) : (bigSep Finset.univ fun k : Fin 7 => semVal (kcell (c, k)) 0 : sProp 𝕄)
    = iprop(semVal (barCell c) 0 ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [seven]

theorem sems0_in (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, seven_sems]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_in (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A duty on a cell of device `c` paid by peer `i` is held by the device whose peer `i` is `c`. -/
theorem deal (i : Fin 3) (cell : Dev nD → GSem nD τ sig) (d : Fin 3) :
    (bigSep Finset.univ fun c : Dev nD => (dutyTok ER (cell c) 0 d : sProp 𝕄)) = bigSep Finset.univ fun c : Dev nD => dutyTok ER (cell (peer i c)) 0 d :=
  bigSep_univ_equiv (pairing i) (fun c : Dev nD => (dutyTok ER (cell c) 0 d : sProp 𝕄))

theorem toks_dealt : (bigSep Finset.univ fun c : Dev nD => (toks c : sProp 𝕄)) ⊢ bigSep Finset.univ fun c : Dev nD => payToks c := by
  unfold toks payToks
  simp only [bigSep_sep']
  rw [deal 0 barCell 0, deal 1 barCell 1, deal 2 barCell 2, deal 0 (recvCell 0) 0, deal 1 (recvCell 1) 0, deal 2 (recvCell 2) 0]

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_dealt (F := F)) $$ Htok
  iapply (spread (R := records m ρ K) (Φ := fun c => linear c) (Ψ := G' m ρ) fun c _ => by
    unfold G'
    iintro ⟨HR, HL⟩
    iexists K
    isplitl [HR] <;> iassumption)
  isplitr
  · unfold records; isplitl; · iexact HI
    iexact HR
  · unfold linear; rw [bigSep_sep']
    isplitl [Hat]; · iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_at (g h : GSem nD τ sig) (n : ℕ) : (tallyAt h () n : CellTallies nD τ sig Unit) g () = if g = h then n else 0 := by
  rw [tallyAt_apply]
  by_cases e : g = h
  · rw [if_pos ⟨e, rfl⟩, if_pos e]
  · rw [if_neg fun h' => e h'.1, if_neg e]

theorem dev_of_cell {a b : Dev nD} {s s' : SemLoc sig} (h : (((a : Thread nD τ), s) : GSem nD τ sig) = ((b : Thread nD τ), s')) : a = b :=
  congrArg (fun g : GSem nD τ sig => g.1.1) h

theorem bar_iff (i : Fin 3) (c d : Dev nD) : barCell c = barCell (peer i d) ↔ d = peer i c :=
  ⟨fun h => by rw [dev_of_cell h, peer_peer], fun h => by rw [h, peer_peer]⟩
theorem recv_iff (i : Fin 3) (c d : Dev nD) : recvCell i c = recvCell i (peer i d) ↔ d = peer i c :=
  ⟨fun h => by rw [dev_of_cell h, peer_peer], fun h => by rw [h, peer_peer]⟩
theorem recv_ne_bar (i : Fin 3) (c d : Dev nD) : recvCell i c ≠ barCell d := fun h => by cases congrArg Prod.snd h
theorem recvS_injective : Function.Injective recvS := by decide
theorem recv_ne (i j : Fin 3) (hij : i ≠ j) (c d : Dev nD) : recvCell i c ≠ recvCell j d := fun h =>
  hij (recvS_injective (SemLoc.dma.inj (congrArg Prod.snd h)))

/-- What device `d` owes the cell `g`. -/
theorem owed (d : Dev nD) (g : GSem nD τ sig) : O₀ d g () =
    (((((if g = recvCell 2 (peer 2 d) then N else 0) + (if g = recvCell 1 (peer 1 d) then N else 0)) + (if g = recvCell 0 (peer 0 d) then N else 0))
      + (if g = barCell (peer 2 d) then 1 else 0)) + (if g = barCell (peer 1 d) then 1 else 0)) + (if g = barCell (peer 0 d) then 1 else 0) := by
  unfold O₀ OE OD OC OB OA
  simp only [Pi.add_apply, Finsupp.add_apply, tally_at]

theorem owed_bar (d c : Dev nD) : O₀ d (barCell c) () = ((if d = peer 2 c then 1 else 0) + (if d = peer 1 c then 1 else 0)) + (if d = peer 0 c then 1 else 0) := by
  rw [owed, if_neg (recv_ne_bar _ _ _).symm, if_neg (recv_ne_bar _ _ _).symm, if_neg (recv_ne_bar _ _ _).symm]
  simp only [bar_iff, Nat.zero_add]
theorem owed_recv0 (d c : Dev nD) : O₀ d (recvCell 0 c) () = if d = peer 0 c then N else 0 := by
  rw [owed, if_neg (recv_ne 0 2 (by decide) _ _), if_neg (recv_ne 0 1 (by decide) _ _), if_neg (recv_ne_bar _ _ _), if_neg (recv_ne_bar _ _ _), if_neg (recv_ne_bar _ _ _)]
  simp only [recv_iff, Nat.zero_add, Nat.add_zero]
theorem owed_recv1 (d c : Dev nD) : O₀ d (recvCell 1 c) () = if d = peer 1 c then N else 0 := by
  rw [owed, if_neg (recv_ne 1 2 (by decide) _ _), if_neg (recv_ne 1 0 (by decide) _ _), if_neg (recv_ne_bar _ _ _), if_neg (recv_ne_bar _ _ _), if_neg (recv_ne_bar _ _ _)]
  simp only [recv_iff, Nat.zero_add, Nat.add_zero]
theorem owed_recv2 (d c : Dev nD) : O₀ d (recvCell 2 c) () = if d = peer 2 c then N else 0 := by
  rw [owed, if_neg (recv_ne 2 1 (by decide) _ _), if_neg (recv_ne 2 0 (by decide) _ _), if_neg (recv_ne_bar _ _ _), if_neg (recv_ne_bar _ _ _), if_neg (recv_ne_bar _ _ _)]
  simp only [recv_iff, Nat.zero_add, Nat.add_zero]
theorem owed_recv (i : Fin 3) (d c : Dev nD) : O₀ d (recvCell i c) () = if d = peer i c then N else 0 := by
  match i with
  | 0 => exact owed_recv0 d c
  | 1 => exact owed_recv1 d c
  | 2 => exact owed_recv2 d c

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]
theorem launch_recv (i : Fin 3) (c : Dev nD) :
    tallyOn (recvCell i c) (launchCredit (Pipeline.owing O₀) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv i d c, Finset.sum_ite_eq' Finset.univ (peer i c) fun _ => N,
    if_pos (Finset.mem_univ _)]

theorem creds (c : Dev nD) : (Pipeline.launchCred O₀ c : sProp 𝕄) ⊢ startCreds c := by
  have h : ∀ Φ : SemLoc sig → sProp 𝕄, bigSep Finset.univ Φ
      ⊢ iprop(Φ (.reg barS) ∗ Φ (.dma (recvS 0)) ∗ Φ (.dma (recvS 1)) ∗ Φ (.dma (recvS 2))) := fun Φ => by
    have e : bigSep [SemLoc.reg barS, .dma (recvS 0), .dma (recvS 1), .dma (recvS 2)].toFinset Φ
        = iprop(Φ (.reg barS) ∗ Φ (.dma (recvS 0)) ∗ Φ (.dma (recvS 1)) ∗ Φ (.dma (recvS 2))) :=
      bigSep_eq_bigSepL _ (by decide) Φ
    rw [← e]
    exact bigSep_subset (Finset.subset_univ _)
  unfold Pipeline.launchCred startCreds
  rw [← launch_bar, ← launch_recv 0 c, ← launch_recv 1 c, ← launch_recv 2 c]
  exact h _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [seven_sems]
  iintro ⟨Hr, HB, HO⟩
  isplitl [HB]; · iexact HB
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair execution of the program on the four devices ends,
    with each array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Frames.lean ====
/-
The frames: the program, read at the machine's floats and at the extended reals, and the reference each run to the end,
leave their argument as it was and every semaphore counter at zero. Also what the two windows' arrays are: the argument
staged whole, the result array ending as the kernel left its staging buffer.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Pipeline.ValueKit.Geometry

@[expose] public section

noncomputable section

namespace Cert.TopK

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- What a device stages is its whole argument array. -/
theorem xstg_eq (c : Dev nD) : xstg m ρ c = m ((c : Thread nD τ).loc main_arg0) := by
  funext i
  show m ((c : Thread nD τ).loc main_arg0) ((win0_0.blk (0 : Fin 1)).view.emb i) = m ((c : Thread nD τ).loc main_arg0) i
  congr 1
  funext a
  apply Fin.ext
  exact win0_0.rect_emb_val_of_index_zero _ (t := t0_0) (by fin_cases a <;> decide) _

/-- The result array ends holding what the kernel left in the staging buffer. -/
theorem finalA_o (c : Dev nD) : finalA m ρ c (1 : Fin 2) = outAt m ρ c :=
  (dats (F := F) m ρ 0 c).arrAt_eq_of_after_last (1 : Fin 2) t0_0 (by decide +kernel) (outAt m ρ c) (fun j => rfl)

/-- The idealized program, for any float values: every device's result array ends at `outAt` and its argument as it was. -/
theorem run_out : θ_run defs (onTc (τ := τ) (main (F := F))) ⟨m, fun _ => 0, ρ⟩ fun r => ∀ c : Dev nD,
    r.2.mem ((c : Thread nD τ).loc main_v1) = outAt m ρ c
      ∧ r.2.mem ((c : Thread nD τ).loc main_arg0) = m ((c : Thread nD τ).loc main_arg0) :=
  (θ_run defs _ _).mono (fun _ h c => ⟨(h.1 c (1 : Fin 2)).trans (finalA_o m ρ c), (h.1 c (0 : Fin 2)).trans (finalA_x m ρ c)⟩)
    (run_main (F := F) m ρ)

/-- The idealized program's frame. -/
theorem frame_kernelIdeal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- The two programs' body tables are the same table: the kernel's text is the same text. -/
theorem defs₀_same : (Cert.Kernel.defs₀ (F := F)) = Cert.KernelIdeal.defs₀ (F := F) := by
  unfold Cert.Kernel.defs₀ Cert.KernelIdeal.defs₀
  refine congrArg Defs.onTc ?_
  funext l a
  match l, a with
  | ⟨0, _⟩, (t, s) => rfl

theorem defs_same : (Cert.Kernel.defs (F := F)) = Cert.KernelIdeal.defs (F := F) := congrArg (Pipeline.defs _) defs₀_same

/-- The program's frame: its text is the idealized program's, so the same run is read at the machine's floats. -/
theorem frame_kernel : Cert.quiescent_Kernel := by
  intro m ρ _
  have h : θ_run Cert.KernelIdeal.defs (onTc (τ := τ) (main (F := Bits))) ⟨m, fun _ => 0, ρ⟩ fun r =>
      (∀ c : Dev nD, r.2.mem ((c : Thread nD τ).loc main_arg0) = m ((c : Thread nD τ).loc main_arg0)) ∧ r.2.sem = fun _ => 0 :=
    (θ_run Cert.KernelIdeal.defs _ _).mono (fun _ h => ⟨fun c => (h.1 c (0 : Fin 2)).trans (finalA_x m ρ c), h.2⟩)
      (run_main (F := Bits) m ρ)
  rw [defs_same]
  exact h

/-- The reference's frame: its run, and that it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.TopK

end
-- ==== Proof.Refer.lean ====
/-
What the reference computes, over the extended reals: a row has a permutation of its 8192 places along which its entries do
not increase (`perm`, `perm_antitone`), and entry `j` of the result's row is the row's entry at place `j` of that permutation
(`top_apply`).
-/
module

public import proofs.«01_k».proof.On_separated
public import Idealize.ShloMosaic.Lib.Pointwise
public import Idealize.ShloMosaic.Lib.SortFacts
public import Idealize.ShloMosaic.Lib.ReduceAll
public import Idealize.ShloMosaic.Lib.StableHlo.Predicate

@[expose] public section

noncomputable section

namespace Cert.TopK.Refer

open Cert.On_separated
open Idealize.ShloMosaic

variable [Cert.On_separated.Facts]

/-- A comparison for equality with a constant, used to replace the value by that constant, replaces nothing. -/
theorem select_self (a c : EReal) : Scalar.select (FloatOps.cmpf (F := Ideal) (φ := .f32) .oeq a c) c a = a := by
  by_cases h : a = c
  · subst h; unfold Scalar.select; split <;> rfl
  · have : FloatOps.cmpf (F := Ideal) (φ := .f32) .oeq a c = 0#1 := by
      show BitVec.ofBool (decide (a = c)) = 0#1
      simp [h]
    rw [this]; rfl

/-- No value differs from itself, so a replacement under that test keeps the value. -/
theorem select_nan (a c b : EReal) : Scalar.select (FloatOps.cmpf (F := Ideal) (φ := .f32) .une a a) c b = b := by
  have : FloatOps.cmpf (F := Ideal) (φ := .f32) .une a a = 0#1 := by
    show BitVec.ofBool (decide (a ≠ a)) = 0#1
    simp
  rw [this]; rfl

/-- The reference's comparator asks whether the first key is below the second. -/
theorem comparator_eq (l r : EReal × BitVec 32) :
    comparator_f32_i32_d1 (F := Ideal) l r = BitVec.ofBool (decide (l.1 < r.1)) := by
  unfold comparator_f32_i32_d1
  simp only [select_self, select_nan]
  rfl

/-- The order the reference sorts row `r` by: greater entries first. -/
def before (X : FVec Ideal S512x8192 .f32) (r : Fin 512) (k k' : Fin 8192) : Bool := decide (-X (ix2 r k) < -X (ix2 r k'))

/-- The place in row `r` of the entry the sort puts at place `k`. -/
def perm (X : FVec Ideal S512x8192 .f32) (r : Fin 512) (k : Fin 8192) : Fin 8192 := sortedFrom (before X r) k

theorem perm_injective (X : FVec Ideal S512x8192 .f32) (r : Fin 512) : Function.Injective (perm X r) := sortedFrom_injective _

theorem perm_surjective (X : FVec Ideal S512x8192 .f32) (r : Fin 512) : Function.Surjective (perm X r) := sortedFrom_surjective _

/-- Along the permutation the entries do not increase. -/
theorem perm_antitone (X : FVec Ideal S512x8192 .f32) (r : Fin 512) {a b : Fin 8192} (hab : a ≤ b) :
    X (ix2 r (perm X r b)) ≤ X (ix2 r (perm X r a)) := by
  rcases hab.lt_or_eq with h | rfl
  · have := sortedFrom_noInversion (before X r) (before X r)
      (fun a b h => by simp only [before, decide_eq_true_eq, decide_eq_false_iff_not, not_lt] at *; exact h.le)
      (fun _ _ h => h)
      (fun a b c h h' => by simp only [before, decide_eq_false_iff_not, not_lt] at *; exact h'.trans h) a b h
    simp only [before, decide_eq_false_iff_not, not_lt, EReal.neg_le_neg_iff] at this
    exact this
  · exact le_rfl

/-- A truth value's bit is one exactly when it holds. -/
theorem bit_beq (b : Bool) : (BitVec.ofBool b == 1#1) = b := by cases b <;> rfl

/-- The argsort's word at `(r, k)` is the number of the place the sort takes from. -/
theorem argsort_apply (X : FVec Ideal S512x8192 .f32) (r : Fin 512) (k : Fin 8192) :
    fn_argsort (F := Ideal) (Host.negf X) (ix2 r k) = BitVec.ofNat 32 (perm X r k).val := by
  unfold fn_argsort Host.sort2
  simp only [comparator_eq]
  rw [dif_pos (by decide)]
  have e : ∀ c, (ix2 r k).along (1 : Fin 2) c = ix2 r c := fun c => by
    funext d; match d with
    | ⟨0, _⟩ => rfl
    | ⟨1, _⟩ => rfl
  have hb : (fun a b : Fin 8192 => BitVec.ofBool (decide (Host.negf X ((ix2 r k).along (1 : Fin 2) a)
      < Host.negf X ((ix2 r k).along (1 : Fin 2) b))) == 1#1) = before X r := by
    funext a b
    exact (congrArg₂ (fun u v => BitVec.ofBool (decide (Host.negf X u < Host.negf X v)) == 1#1) (e a) (e b)).trans
      (bit_beq _)
  have hi : ∀ c : Fin 8192, iotaInDim S512x8192 32 1 ((ix2 r k).along (1 : Fin 2) c) = BitVec.ofNat 32 c.val := fun c =>
    congrArg (iotaInDim S512x8192 32 1) (e c)
  refine (hi _).trans ?_
  unfold perm
  rw [← hb]
  rfl

/-- The reference's gather reads, in the result's row, the entry at the place its word names (when it is a place). -/
theorem gather_apply (X : FVec Ideal S512x8192 .f32) (w : IVec S512x16x1 32) (r : Fin 512) (j : Fin 16) (p : Fin 8192)
    (hp : w (ix3 r j 0) = BitVec.ofNat 32 p.val) :
    Host.gather gather_S512x8192_S512x16x1_S512x16_n_1_0_0_1_2_11 X w (ix2 r j) = X (ix2 r p) := by
  unfold Host.gather
  congr 1
  funext a
  refine Fin.ext ?_
  let d := gather_S512x8192_S512x16x1_S512x16_n_1_0_0_1_2_11
  show d.start (ix2 r j) w a + d.batchCoord (ix2 r j) a + d.offCoord (ix2 r j) a = _
  have h01 : a = 0 ∨ a = 1 := by
    match a with
    | ⟨0, _⟩ => exact Or.inl rfl
    | ⟨1, _⟩ => exact Or.inr rfl
  rcases h01 with rfl | rfl
  · rw [GatherDims.start_batching _ _ _ _ (show (0 : Fin 2) ∈ d.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => by simp [d, gather_S512x8192_S512x16x1_S512x16_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r j) ⟨List.idxOf (1 : Fin 2) d.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi, hp]
    have hv := p.isLt
    have : (BitVec.ofNat 32 p.val).toInt.toNat = p.val := by
      rw [BitVec.toInt_eq_toNat_of_lt (by rw [BitVec.toNat_ofNat]; omega), BitVec.toNat_ofNat]
      omega
    rw [this]
    show min p.val (8192 - 1) = p.val
    omega

theorem slt_zero_ofNat (p : ℕ) (hp : p < 8192) : IntOp.cmpi .slt (BitVec.ofNat 32 p) 0#32 = 0#1 := by
  have h : (BitVec.ofNat 32 p).toInt = p := by
    rw [BitVec.toInt_eq_toNat_of_lt (by rw [BitVec.toNat_ofNat]; omega), BitVec.toNat_ofNat]; omega
  simp only [IntOp.cmpi, BitVec.slt, h]
  rw [decide_eq_false (by simp)]; rfl

theorem sge_zero_ofNat (p : ℕ) (hp : p < 8192) : IntOp.cmpi .sge (BitVec.ofNat 32 p) 0#32 = 1#1 := by
  have h : (BitVec.ofNat 32 p).toInt = p := by
    rw [BitVec.toInt_eq_toNat_of_lt (by rw [BitVec.toNat_ofNat]; omega), BitVec.toNat_ofNat]; omega
  simp only [IntOp.cmpi, BitVec.sle, h]
  simp

theorem sle_last_ofNat (p : ℕ) (hp : p < 8192) : IntOp.cmpi .sle (BitVec.ofNat 32 p) 8191#32 = 1#1 := by
  have h : (BitVec.ofNat 32 p).toInt = p := by
    rw [BitVec.toInt_eq_toNat_of_lt (by rw [BitVec.toNat_ofNat]; omega), BitVec.toNat_ofNat]; omega
  have h' : (8191#32 : BitVec 32).toInt = 8191 := by decide
  simp only [IntOp.cmpi, BitVec.sle, h, h', BitVec.ofBool_eq_iff_eq]
  rw [decide_eq_true (by omega)]; rfl

/-- Taking along the rows by words that all name places reads the entries at those places. -/
theorem take_apply (X : FVec Ideal S512x8192 .f32) (w : IVec S512x16 32) (p : Fin 512 → Fin 16 → Fin 8192)
    (hw : ∀ r j, w (ix2 r j) = BitVec.ofNat 32 (p r j).val) (r : Fin 512) (j : Fin 16) :
    fn_take_along_axis (F := Ideal) X w (ix2 r j) = X (ix2 r (p r j)) := by
  let v4 : IVec S512x16 32 := select (cmpi .slt w (broadcastInDim S512x16 ![] Facts.bcast_S_S512x16 (constantI S_ 32 0#32)))
    (addi w (broadcastInDim S512x16 ![] Facts.bcast_S_S512x16 (constantI S_ 32 8192#32))) w
  have h4 : ∀ r j, v4 (ix2 r j) = BitVec.ofNat 32 (p r j).val := fun r j => by
    pointwise [v4]
    rw [hw, slt_zero_ofNat _ (p r j).isLt]
    rfl
  let v5 : IVec S512x16x1 32 := shapeCast S512x16x1 v4 Facts.shapeCasts_S512x16_S512x16x1
  have h5 : ∀ r j, v5 (ix3 r j 0) = BitVec.ofNat 32 (p r j).val := fun r j => by
    rw [← h4 r j]
    pointwise [v5]
  let v11 : IVec S512x16x1 1 := andi (cmpi .sge v5 (broadcastInDim S512x16x1 ![] Facts.bcast_S_S512x16x1 (constantI S_ 32 0#32)))
    (cmpi .sle v5 (broadcastInDim S512x16x1 ![0, 1, 2] Facts.bcast_S1x1x1_S512x16x1_0_1_2
      (broadcastInDim S1x1x1 ![2] Facts.bcast_S1_S1x1x1_2 (constantI S1 32 8191#32))))
  have h11 : ∀ i, v11 i = 1#1 := fun i => by
    have hi : i = ix3 (i 0) (i 1) 0 := by
      funext d; match d with
      | ⟨0, _⟩ => rfl
      | ⟨1, _⟩ => rfl
      | ⟨2, _⟩ => exact Subsingleton.elim (α := Fin 1) _ _
    show IntOp.andi (IntOp.cmpi .sge (v5 i) 0#32) (IntOp.cmpi .sle (v5 i) 8191#32) = 1#1
    obtain ⟨q, hq, e⟩ : ∃ q < 8192, v5 i = BitVec.ofNat 32 q :=
      ⟨_, (p (i 0) (i 1)).isLt, (congrArg v5 hi).trans (h5 (i 0) (i 1))⟩
    rw [e, sge_zero_ofNat q hq, sle_last_ofNat q hq]
    rfl
  have h12 : Host.reduce IntOp.andi v11 (constantI S_ 1 1#1) Facts.reducesTo_S512x16x1_S512x16_d2 Facts.h_S_ (ix2 r j) = 1#1 :=
    Host.reduce_andi_one _ _ _ _ _ rfl h11
  have hd : fn_take_along_axis (F := Ideal) X w
      = select (Host.reduce IntOp.andi v11 (constantI S_ 1 1#1) Facts.reducesTo_S512x16x1_S512x16_d2 Facts.h_S_)
          (Host.gather gather_S512x8192_S512x16x1_S512x16_n_1_0_0_1_2_11 X v5)
          (broadcastInDim S512x16 ![] Facts.bcast_S_S512x16 (constant (F := Ideal) S_ .f32 0x7FC00000#32)) := rfl
  rw [hd]
  unfold select
  rw [h12, gather_apply X v5 r j (p r j) (h5 r j)]
  rfl

/-- The reference's result: of each row, in place `j < 16`, the entry the sort puts at place `j`. -/
def top (X : FVec Ideal S512x8192 .f32) : FVec Ideal S512x16 .f32 :=
  fn_take_along_axis (F := Ideal) X (extractStridedSlice S512x16 ![0, 0] (fn_argsort (F := Ideal) (Host.negf X)) Facts.slices_S512x8192_S512x16_0_0)

/-- The reference's result at `(r, j)` is row `r`'s entry at place `j` of its sorting permutation. -/
theorem top_apply (X : FVec Ideal S512x8192 .f32) (r : Fin 512) (j : Fin 16) :
    top X (ix2 r j) = X (ix2 r (perm X r ⟨j.val, by omega⟩)) := by
  unfold top
  refine take_apply X _ (fun r j => perm X r ⟨j.val, by omega⟩) (fun r j => ?_) r j
  refine Eq.trans ?_ (argsort_apply X r ⟨j.val, by omega⟩)
  pointwise []

end Cert.TopK.Refer

end
-- ==== Proof.Stage.lean ====
/-
The vector work of the kernel, written by its recursion: a row maximum taken sixteen times, each time replacing what
equals it. `candGroups_eq` says so of one device's candidates (an entry is replaced by its reserve), `mergeLocal_eq` and
`mergeRemote_eq` of the two merges (an entry is replaced by minus infinity). At any floats.
-/
module

public import proofs.«01_k».proof.Proof.Content

@[expose] public section

noncomputable section

namespace Cert.TopK

open Cert.KernelIdeal Cert.KernelIdeal.Gen
open Idealize.ShloMosaic

variable {F : FTy → Type} [FloatOps F]

/-- The row maxima of 128 lanes. -/
def top128 (w : FVec F S256x128 .f32) : FVec F S256x1 .f32 :=
  shapeCast S256x1 (multiReduction .maximumf [1] S256 w 0xFF800000#32 reduces_S256x128_S256 (.inl rfl) rfl) shapeCasts_S256_S256x1

/-- Where an entry equals its row's maximum. -/
def hit128 (w : FVec F S256x128 .f32) : IVec S256x128 1 :=
  cmpf .oeq w (broadcastTo S256x128 (top128 w) broadcasts_S256x1_S256x128)

/-- One step on (entries, reserves). -/
def swap128 (p : FVec F S256x128 .f32 × FVec F S256x128 .f32) : FVec F S256x128 .f32 × FVec F S256x128 .f32 :=
  (select (hit128 p.1) p.2 p.1, select (hit128 p.1) (broadcast S256x128 (Scalar.ofBits .f32 0xFF800000#32)) p.2)

/-- The pair after `k` steps. -/
def swaps128 (p : FVec F S256x128 .f32 × FVec F S256x128 .f32) : ℕ → FVec F S256x128 .f32 × FVec F S256x128 .f32
  | 0 => p
  | k + 1 => swap128 (swaps128 p k)

/-- The row maxima of 32 lanes. -/
def top32 (w : FVec F S256x32 .f32) : FVec F S256x1 .f32 :=
  shapeCast S256x1 (multiReduction .maximumf [1] S256 w 0xFF800000#32 reduces_S256x32_S256 (.inl rfl) rfl) shapeCasts_S256_S256x1

/-- One step of a merge. -/
def peel32 (w : FVec F S256x32 .f32) : FVec F S256x32 .f32 :=
  select (cmpf .oeq w (broadcastTo S256x32 (top32 w) broadcasts_S256x1_S256x32)) (broadcast S256x32 (Scalar.ofBits .f32 0xFF800000#32)) w

/-- The lanes after `k` steps of a merge. -/
def peels32 (w : FVec F S256x32 .f32) : ℕ → FVec F S256x32 .f32
  | 0 => w
  | k + 1 => peel32 (peels32 w k)

/-- Sixteen columns side by side. -/
def cat (c : ℕ → FVec F S256x1 .f32) : FVec F S256x16 .f32 :=
  concatenate S256x16 1 [⟨S256x1, c 0⟩, ⟨S256x1, c 1⟩, ⟨S256x1, c 2⟩, ⟨S256x1, c 3⟩, ⟨S256x1, c 4⟩, ⟨S256x1, c 5⟩, ⟨S256x1, c 6⟩,
    ⟨S256x1, c 7⟩, ⟨S256x1, c 8⟩, ⟨S256x1, c 9⟩, ⟨S256x1, c 10⟩, ⟨S256x1, c 11⟩, ⟨S256x1, c 12⟩, ⟨S256x1, c 13⟩, ⟨S256x1, c 14⟩, ⟨S256x1, c 15⟩]
    concatenates_S256x1_S256x1_S256x1_S256x1_S256x1_S256x1_S256x1_S256x1_S256x1_S256x1_S256x1_S256x1_S256x1_S256x1_S256x1_S256x1_S256x16_d1

/-- One device's candidates, from the (greatest, second greatest) group maximum of every lane. -/
theorem candGroups_eq (g0 g1 g2 g3 g4 g5 g6 : FVec F S256x128 .f32) (a b c d e : Vec F S256x128 .f32) :
    candGroups g0 g1 g2 g3 g4 g5 g6 a b c d e
      = cat fun k => top128 (swaps128 (k0_pay19 g0 g1 g2 g3 g4 g5 g6 a b c d e, k0_pay18 g0 g1 g2 g3 g4 g5 g6 a b c d e) k).1 := by
  rfl

/-- The local merge, from the two candidate lists side by side. -/
theorem mergeLocal_eq (a b : Vec F S1x256x16 .f32) :
    mergeLocal a b = cat fun k => top32 (peels32 (k0_pay56 a b) k) := by
  rfl

/-- The remote merge, from the two candidate lists side by side. -/
theorem mergeRemote_eq (a b : Vec F S1x256x16 .f32) :
    mergeRemote a b = cat fun k => top32 (peels32 (k0_pay56 a b) k) := by
  rfl

end Cert.TopK

end
-- ==== Proof.Extract.lean ====
/-
Extraction of greatest values, over the extended reals and without any program: taking the maximum of a finite family and
then deleting every entry equal to it lists the distinct values in decreasing order (`peel`), and the same where each
entry has one reserve that takes its place once (`swap`). The two greatest of eight are followed through their fold (`two`).
-/
module

public import Idealize.ShloMosaic.PureOps.Ideal.Laws

@[expose] public section

noncomputable section

namespace Cert.TopK.Extract

variable {ι : Type} [Fintype ι]

/-- The greatest entry of a family (`⊥` if there is none). -/
def mx (w : ι → EReal) : EReal := Finset.univ.sup w

theorem le_mx (w : ι → EReal) (i : ι) : w i ≤ mx w := Finset.le_sup (Finset.mem_univ i)

theorem mx_mem [Nonempty ι] (w : ι → EReal) : ∃ i, mx w = w i := by
  obtain ⟨i, -, h⟩ := Finset.exists_mem_eq_sup Finset.univ Finset.univ_nonempty w
  exact ⟨i, h⟩

/-- A value that is an entry and bounds every entry is the greatest. -/
theorem mx_eq (w : ι → EReal) {v : EReal} (i : ι) (hi : w i = v) (h : ∀ j, w j ≤ v) : mx w = v :=
  le_antisymm (Finset.sup_le fun j _ => h j) (hi ▸ le_mx w i)

/-! ## Deleting the greatest -/

/-- Every entry equal to the greatest is replaced by `⊥`. -/
def peel (w : ι → EReal) : ι → EReal := fun i => if w i = mx w then ⊥ else w i

/-- The entries of `w` at or above `s j` are exactly the values `s a, …, s j` (each at least once). -/
structure Tail (s : ℕ → EReal) (j a : ℕ) (w : ι → EReal) : Prop where
  has : ∀ b, a ≤ b → b ≤ j → ∃ i, w i = s b
  only : ∀ i, s j ≤ w i → ∃ b, a ≤ b ∧ b ≤ j ∧ w i = s b

theorem Tail.mx_eq {s : ℕ → EReal} {j a : ℕ} {w : ι → EReal} (h : Tail s j a w) (haj : a ≤ j)
    (hs : ∀ b b', b < b' → b' ≤ j → s b' < s b) : mx w = s a := by
  obtain ⟨i, hi⟩ := h.has a le_rfl haj
  refine Extract.mx_eq w i hi fun k => ?_
  have mono : ∀ b, a ≤ b → b ≤ j → s b ≤ s a := fun b hab hbj => by
    rcases hab.eq_or_lt with rfl | hlt
    · exact le_rfl
    · exact (hs a b hlt hbj).le
  by_cases hk : s j ≤ w k
  · obtain ⟨b, hab, hbj, hb⟩ := h.only k hk
    rw [hb]; exact mono b hab hbj
  · exact (not_le.mp hk).le.trans (mono j haj le_rfl)

theorem Tail.peel {s : ℕ → EReal} {j a : ℕ} {w : ι → EReal} (h : Tail s j a w) (haj : a ≤ j)
    (hs : ∀ b b', b < b' → b' ≤ j → s b' < s b) (hbot : ⊥ < s j) : Tail s j (a + 1) (peel w) := by
  have hm := h.mx_eq haj hs
  constructor
  · intro b hab hbj
    obtain ⟨i, hi⟩ := h.has b (by omega) hbj
    refine ⟨i, ?_⟩
    unfold Extract.peel
    rw [if_neg]
    · exact hi
    · rw [hi, hm]; exact (hs a b (by omega) hbj).ne
  · intro i hi
    unfold Extract.peel at hi ⊢
    by_cases he : w i = mx w
    · rw [if_pos he] at hi; exact absurd hbot (not_lt.mpr hi)
    · rw [if_neg he] at hi ⊢
      obtain ⟨b, hab, hbj, hb⟩ := h.only i hi
      refine ⟨b, ?_, hbj, hb⟩
      rcases hab.eq_or_lt with rfl | hlt
      · exact absurd (hb.trans hm.symm) he
      · exact hlt

/-- The family after `k` deletions. -/
def peels (w : ι → EReal) : ℕ → ι → EReal
  | 0 => w
  | k + 1 => peel (peels w k)

/-- If the entries at or above `s j` are the values `s 0 > … > s j`, then the `k`-th maximum taken is `s k`. -/
theorem mx_peels {s : ℕ → EReal} {j : ℕ} {w : ι → EReal} (h : Tail s j 0 w)
    (hs : ∀ b b', b < b' → b' ≤ j → s b' < s b) (hbot : ⊥ < s j) (k : ℕ) (hk : k ≤ j) : mx (peels w k) = s k := by
  have T : ∀ k, k ≤ j → Tail s j k (peels w k) := by
    intro k
    induction k with
    | zero => exact fun _ => h
    | succ k ih => exact fun hk => (ih (by omega)).peel (by omega) hs hbot
  exact (T k hk).mx_eq hk hs

/-! ## Deleting the greatest where every entry has a reserve -/

/-- One step on (entries, reserves): every entry equal to the greatest is replaced by its reserve, and that reserve by `⊥`. -/
def swap (p : (ι → EReal) × (ι → EReal)) : (ι → EReal) × (ι → EReal) :=
  (fun i => if p.1 i = mx p.1 then p.2 i else p.1 i, fun i => if p.1 i = mx p.1 then ⊥ else p.2 i)

/-- The pair after `k` steps. -/
def swaps (p : (ι → EReal) × (ι → EReal)) : ℕ → (ι → EReal) × (ι → EReal)
  | 0 => p
  | k + 1 => swap (swaps p k)

theorem swaps_succ' (p : (ι → EReal) × (ι → EReal)) (k : ℕ) : swaps p (k + 1) = swaps (swap p) k := by
  induction k with
  | zero => rfl
  | succ k ih => show swap (swaps p (k + 1)) = swap (swaps (swap p) k); rw [ih]

/-- What is kept of the pair: no reserve exceeds its entry, equal ones are at most `t`, and the values at or above `t` are
    among the finite set `R`, each of which is an entry or a reserve. -/
structure Held (t : EReal) (R : Finset EReal) (p : (ι → EReal) × (ι → EReal)) : Prop where
  le : ∀ i, p.2 i ≤ p.1 i
  tie : ∀ i, p.1 i = p.2 i → p.1 i ≤ t
  has : ∀ v ∈ R, ∃ i, p.1 i = v ∨ p.2 i = v
  only1 : ∀ i, t ≤ p.1 i → p.1 i ∈ R
  only2 : ∀ i, t ≤ p.2 i → p.2 i ∈ R
  above : ∀ v ∈ R, t ≤ v

theorem Held.mx_mem {t : EReal} {R : Finset EReal} {p : (ι → EReal) × (ι → EReal)} (h : Held t R p) {v : EReal}
    (hv : v ∈ R) : mx p.1 ∈ R ∧ ∀ u ∈ R, u ≤ mx p.1 := by
  have up : ∀ u ∈ R, u ≤ mx p.1 := fun u hu => by
    obtain ⟨i, hi | hi⟩ := h.has u hu
    · exact hi ▸ le_mx p.1 i
    · exact hi ▸ (h.le i).trans (le_mx p.1 i)
  obtain ⟨i, -⟩ := h.has v hv
  haveI : Nonempty ι := ⟨i⟩
  obtain ⟨k, hk⟩ := Extract.mx_mem p.1
  refine ⟨?_, up⟩
  rw [hk]
  exact h.only1 k (hk ▸ (h.above v hv).trans (up v hv))

/-- A step removes the greatest value, as long as it is above `t`. -/
theorem Held.swap {t : EReal} {R : Finset EReal} {p : (ι → EReal) × (ι → EReal)} (h : Held t R p) (hbot : ⊥ < t)
    (hm : t < mx p.1) : Held t (R.erase (mx p.1)) (Extract.swap p) := by
  have low : ∀ i, p.1 i = mx p.1 → p.2 i ≠ mx p.1 := fun i hi he =>
    absurd (hi ▸ h.tie i (hi.trans he.symm)) (not_le.mpr hm)
  have lt2 : ∀ i, p.2 i ≠ mx p.1 := fun i he => by
    have h1 : p.1 i = mx p.1 := le_antisymm (le_mx p.1 i) (he ▸ h.le i)
    exact low i h1 he
  refine ⟨fun i => ?_, fun i => ?_, fun v hv => ?_, fun i => ?_, fun i => ?_, fun v hv => h.above v (Finset.mem_of_mem_erase hv)⟩
  · unfold Extract.swap
    by_cases he : p.1 i = mx p.1
    · simp only [if_pos he]; exact bot_le
    · simp only [if_neg he]; exact h.le i
  · unfold Extract.swap
    by_cases he : p.1 i = mx p.1
    · simp only [if_pos he]; intro h0; rw [h0]; exact hbot.le
    · simp only [if_neg he]; exact h.tie i
  · obtain ⟨hne, hv⟩ := Finset.mem_erase.mp hv
    obtain ⟨i, hi | hi⟩ := h.has v hv
    · refine ⟨i, Or.inl ?_⟩
      unfold Extract.swap
      simp only [if_neg (show p.1 i ≠ mx p.1 from hi ▸ hne)]; exact hi
    · by_cases he : p.1 i = mx p.1
      · refine ⟨i, Or.inl ?_⟩
        unfold Extract.swap
        simp only [if_pos he]; exact hi
      · refine ⟨i, Or.inr ?_⟩
        unfold Extract.swap
        simp only [if_neg he]; exact hi
  · unfold Extract.swap
    by_cases he : p.1 i = mx p.1
    · simp only [if_pos he]; exact fun ht => Finset.mem_erase.mpr ⟨lt2 i, h.only2 i ht⟩
    · simp only [if_neg he]; exact fun ht => Finset.mem_erase.mpr ⟨he, h.only1 i ht⟩
  · unfold Extract.swap
    by_cases he : p.1 i = mx p.1
    · simp only [if_pos he]; exact fun ht => absurd hbot (not_lt.mpr ht)
    · simp only [if_neg he]; exact fun ht => Finset.mem_erase.mpr ⟨lt2 i, h.only2 i ht⟩

/-- If at most `N` distinct values stand at or above `t`, each of them is among the first `N` maxima taken. -/
theorem Held.listed {t : EReal} (hbot : ⊥ < t) (N : ℕ) : ∀ (R : Finset EReal) (p : (ι → EReal) × (ι → EReal)),
    Held t R p → R.card ≤ N → ∀ v ∈ R, ∃ k, k < N ∧ mx (swaps p k).1 = v := by
  induction N with
  | zero => intro R p _ hc v hv; exact absurd (Finset.card_pos.mpr ⟨v, hv⟩) (by omega)
  | succ N ih =>
    intro R p h hc v hv
    obtain ⟨hmR, hup⟩ := h.mx_mem hv
    by_cases hvm : v = mx p.1
    · exact ⟨0, Nat.succ_pos N, hvm.symm⟩
    · have hm : t < mx p.1 := lt_of_le_of_lt (h.above v hv) (lt_of_le_of_ne (hup v hv) hvm)
      obtain ⟨k, hk, he⟩ := ih (R.erase (mx p.1)) (Extract.swap p) (h.swap hbot hm)
        (by rw [Finset.card_erase_of_mem hmR]; omega) v (Finset.mem_erase.mpr ⟨hvm, hv⟩)
      exact ⟨k + 1, by omega, by rw [swaps_succ']; exact he⟩

/-- A property that `⊥` has and that every entry and reserve has, every maximum taken has. -/
theorem mx_swaps_mem [Nonempty ι] {P : EReal → Prop} (hbot : P ⊥) {p : (ι → EReal) × (ι → EReal)}
    (h1 : ∀ i, P (p.1 i)) (h2 : ∀ i, P (p.2 i)) (k : ℕ) : P (mx (swaps p k).1) := by
  have T : ∀ k, (∀ i, P ((swaps p k).1 i)) ∧ ∀ i, P ((swaps p k).2 i) := by
    intro k
    induction k with
    | zero => exact ⟨h1, h2⟩
    | succ k ih =>
      refine ⟨fun i => ?_, fun i => ?_⟩
      · show P (if _ then _ else _)
        split
        · exact ih.2 i
        · exact ih.1 i
      · show P (if _ then _ else _)
        split
        · exact hbot
        · exact ih.2 i
  obtain ⟨i, hi⟩ := mx_mem (swaps p k).1
  rw [hi]; exact (T k).1 i

/-! ## The two greatest of a list -/

/-- One more value into (greatest, second greatest). -/
def put (q : EReal × EReal) (b : EReal) : EReal × EReal := (max q.1 b, max q.2 (min q.1 b))

/-- `(m, n)` are two entries of `a` below `N` at different places, every other entry at most `n`, and `n ≤ m`. -/
def Two (a : ℕ → EReal) (N : ℕ) (q : EReal × EReal) : Prop :=
  ∃ g h, g < N ∧ h < N ∧ g ≠ h ∧ q.1 = a g ∧ q.2 = a h ∧ q.2 ≤ q.1 ∧ ∀ i, i < N → i ≠ g → i ≠ h → a i ≤ q.2

theorem two_start (a : ℕ → EReal) : Two a 2 (max (a 0) (a 1), max ⊥ (min (a 0) (a 1))) := by
  rcases le_total (a 0) (a 1) with h | h
  · refine ⟨1, 0, by omega, by omega, by omega, max_eq_right h, ?_, ?_, fun i hi h1 h0 => by omega⟩
    · simp [min_eq_left h]
    · simp
  · refine ⟨0, 1, by omega, by omega, by omega, max_eq_left h, ?_, ?_, fun i hi h1 h0 => by omega⟩
    · simp [min_eq_right h]
    · simp

theorem Two.put {a : ℕ → EReal} {N : ℕ} {q : EReal × EReal} (h : Two a N q) : Two a (N + 1) (Extract.put q (a N)) := by
  obtain ⟨g, k, hg, hk, hne, h1, h2, hle, hrest⟩ := h
  unfold Extract.put
  rcases le_total q.1 (a N) with hN | hN
  · refine ⟨N, g, by omega, by omega, by omega, max_eq_right hN, ?_, ?_, fun i hi hiN hig => ?_⟩
    · simp only [min_eq_left hN, max_eq_right hle]; exact h1
    · simp only [min_eq_left hN, max_eq_right hle, max_eq_right hN]; exact hN
    · simp only [min_eq_left hN, max_eq_right hle]
      by_cases hik : i = k
      · rw [hik, ← h2]; exact hle
      · exact (hrest i (by omega) hig hik).trans hle
  · rcases le_total q.2 (a N) with hN2 | hN2
    · refine ⟨g, N, by omega, by omega, by omega, by simp only [max_eq_left hN]; exact h1, ?_, ?_, fun i hi hig hiN => ?_⟩
      · simp only [min_eq_right hN, max_eq_right hN2]
      · simp only [min_eq_right hN, max_eq_right hN2, max_eq_left hN]; exact hN
      · simp only [min_eq_right hN, max_eq_right hN2]
        by_cases hik : i = k
        · rw [hik, ← h2]; exact hN2
        · exact (hrest i (by omega) hig hik).trans hN2
    · refine ⟨g, k, by omega, by omega, hne, by simp only [max_eq_left hN]; exact h1, ?_, ?_, fun i hi hig hik => ?_⟩
      · simp only [min_eq_right hN, max_eq_left hN2]; exact h2
      · simp only [min_eq_right hN, max_eq_left hN2, max_eq_left hN]; exact hle
      · simp only [min_eq_right hN, max_eq_left hN2]
        by_cases hiN : i = N
        · rw [hiN]; exact hN2
        · exact hrest i (by omega) hig hik

/-- The two greatest of the first `n + 2` values, as the fold takes them. -/
def two (a : ℕ → EReal) : ℕ → EReal × EReal
  | 0 => (max (a 0) (a 1), max ⊥ (min (a 0) (a 1)))
  | n + 1 => put (two a n) (a (n + 2))

theorem two_spec (a : ℕ → EReal) (n : ℕ) : Two a (n + 2) (two a n) := by
  induction n with
  | zero => exact two_start a
  | succ n ih => exact ih.put

end Cert.TopK.Extract

end
-- ==== Proof.Columns.lean ====
/-
The vector work of the kernel at an index, over the extended reals: column `j` of a row of `candOf` is the `j`-th maximum
taken of the lanes' (greatest, second greatest) group maxima (`candOf_apply`), column `j` of a row of a merge the `j`-th
maximum taken of the 32 candidates (`mergeLocal_apply`, `mergeRemote_apply`), and a slab's entry is an entry of the staged
block (`slabs_apply`).
-/
module

public import proofs.«01_k».proof.Proof.Stage
public import proofs.«01_k».proof.Proof.Extract
public import Idealize.ShloMosaic.Lib.Pointwise
public import Idealize.ShloMosaic.Lib.Pipeline.Value

@[expose] public section

noncomputable section

namespace Cert.TopK

open Cert.KernelIdeal Cert.KernelIdeal.Gen
open Idealize.ShloMosaic

/-- The kernel's padding constant is minus infinity. -/
theorem ofBits_negInf : Ideal.ofBits FTy.f32 4286578688#32 = (⊥ : EReal) := by
  simp [Ideal.ofBits, Ideal.ieee]

/-- A maximum reduction from minus infinity is the supremum. -/
theorem fold_max_eq {n : ℕ} (f : Fin n → EReal) : Finset.fold max (⊥ : EReal) f Finset.univ = Extract.mx f := rfl

theorem top128_apply (w : FVec Ideal S256x128 .f32) (r : Fin 256) :
    top128 w (ix2 r 0) = Extract.mx fun l => w (ix2 r l) := by
  pointwise [top128]
  rw [ofBits_negInf]; exact fold_max_eq _

theorem top32_apply (w : FVec Ideal S256x32 .f32) (r : Fin 256) :
    top32 w (ix2 r 0) = Extract.mx fun l => w (ix2 r l) := by
  pointwise [top32]
  rw [ofBits_negInf]; exact fold_max_eq _

/-- Row `r` of (entries, reserves). -/
def row2 (p : FVec Ideal S256x128 .f32 × FVec Ideal S256x128 .f32) (r : Fin 256) : (Fin 128 → EReal) × (Fin 128 → EReal) :=
  (fun l => p.1 (ix2 r l), fun l => p.2 (ix2 r l))

theorem row2_swap (p : FVec Ideal S256x128 .f32 × FVec Ideal S256x128 .f32) (r : Fin 256) :
    row2 (swap128 p) r = Extract.swap (row2 p r) := by
  refine Prod.ext (funext fun l => ?_) (funext fun l => ?_)
  · show (swap128 p).1 (ix2 r l) = if p.1 (ix2 r l) = Extract.mx (fun l => p.1 (ix2 r l)) then p.2 (ix2 r l) else p.1 (ix2 r l)
    rw [← top128_apply]
    pointwise [swap128, hit128]
  · show (swap128 p).2 (ix2 r l) = if p.1 (ix2 r l) = Extract.mx (fun l => p.1 (ix2 r l)) then ⊥ else p.2 (ix2 r l)
    rw [← top128_apply, ← ofBits_negInf]
    pointwise [swap128, hit128]

theorem row2_swaps (p : FVec Ideal S256x128 .f32 × FVec Ideal S256x128 .f32) (r : Fin 256) (k : ℕ) :
    row2 (swaps128 p k) r = Extract.swaps (row2 p r) k := by
  induction k with
  | zero => rfl
  | succ k ih => rw [swaps128, row2_swap, ih]; rfl

theorem row_peel (w : FVec Ideal S256x32 .f32) (r : Fin 256) :
    (fun l => peel32 w (ix2 r l)) = Extract.peel fun l => w (ix2 r l) := by
  funext l
  show peel32 w (ix2 r l) = if w (ix2 r l) = Extract.mx (fun l => w (ix2 r l)) then ⊥ else w (ix2 r l)
  rw [← top32_apply, ← ofBits_negInf]
  pointwise [peel32]

theorem row_peels (w : FVec Ideal S256x32 .f32) (r : Fin 256) (k : ℕ) :
    (fun l => peels32 w k (ix2 r l)) = Extract.peels (fun l => w (ix2 r l)) k := by
  induction k with
  | zero => rfl
  | succ k ih => rw [peels32, row_peel, ih]; rfl

/-- Column `j` of sixteen columns side by side. -/
theorem cat_apply (c : ℕ → FVec Ideal S256x1 .f32) (r : Fin 256) (j : Fin 16) : cat c (ix2 r j) = c j (ix2 r 0) :=
  concatenate_ofFn_unit_apply (t := S256x16) (s₁ := S256x1) (1 : Fin 2) (N := 16) (fun n => c n) _ rfl rfl (ix2 r j) j rfl (ix2 r 0)
    (fun b hb => match b with
      | ⟨0, _⟩ => rfl
      | ⟨1, _⟩ => absurd rfl hb)

/-! ## Candidates -/

/-- Lane `l` of row `r` of the 32 slabs, by the slab's number. -/
def lane (s : Fin 32 → Vec Ideal S256x128 .f32) (r : Fin 256) (l : Fin 128) : ℕ → EReal :=
  fun n => s ⟨n % 32, Nat.mod_lt _ (by decide)⟩ (ix2 r l)

/-- The maximum of group `g` of four slabs. -/
def grp (u : ℕ → EReal) (g : ℕ) : EReal := max (max (max (u (4 * g)) (u (4 * g + 1))) (u (4 * g + 2))) (u (4 * g + 3))

/-- The (greatest, second greatest) group maxima of every lane of row `r`. -/
def lanes2 (s : Fin 32 → Vec Ideal S256x128 .f32) (r : Fin 256) : (Fin 128 → EReal) × (Fin 128 → EReal) :=
  (fun l => (Extract.two (grp (lane s r l)) 6).1, fun l => (Extract.two (grp (lane s r l)) 6).2)

theorem candOf_apply (s : Fin 32 → Vec Ideal S256x128 .f32) (r : Fin 256) (j : Fin 16) :
    candOf s (ix2 r j) = Extract.mx (Extract.swaps (lanes2 s r) j).1 := by
  unfold candOf cand32
  rw [candGroups_eq, cat_apply, top128_apply]
  show Extract.mx (row2 (swaps128 _ j) r).1 = _
  rw [row2_swaps]
  refine congrArg (fun p => Extract.mx (Extract.swaps p j).1) ?_
  refine Prod.ext (funext fun l => ?_) (funext fun l => ?_)
  · refine Eq.trans (b := k0_pay19 (F := Ideal) _ _ _ _ _ _ _ _ _ _ _ _ (ix2 r l)) rfl ?_
    unfold_payloads
    pointwise
    rfl
  · refine Eq.trans (b := k0_pay18 (F := Ideal) _ _ _ _ _ _ _ _ _ _ _ _ (ix2 r l)) rfl ?_
    unfold_payloads
    pointwise
    rw [ofBits_negInf]
    rfl

/-! ## Merges -/

/-- Two candidate lists of row `r` side by side. -/
def both (a b : Vec Ideal S1x256x16 .f32) (r : Fin 256) : Fin 32 → EReal := fun k =>
  if h : k.val < 16 then a (ix3 0 r ⟨k.val, h⟩) else b (ix3 0 r ⟨k.val - 16, by omega⟩)

theorem pay56_row (a b : Vec Ideal S1x256x16 .f32) (r : Fin 256) : (fun k => k0_pay56 a b (ix2 r k)) = both a b r := by
  funext k
  pointwise [k0_pay56]
  rfl

theorem mergeLocal_apply (a b : Vec Ideal S1x256x16 .f32) (r : Fin 256) (j : Fin 16) :
    mergeLocal a b (ix2 r j) = Extract.mx (Extract.peels (both a b r) j) := by
  rw [mergeLocal_eq, cat_apply, top32_apply, row_peels, pay56_row]

theorem mergeRemote_apply (a b : Vec Ideal S1x256x16 .f32) (r : Fin 256) (j : Fin 16) :
    mergeRemote a b (ix2 r j) = Extract.mx (Extract.peels (both a b r) j) := by
  rw [mergeRemote_eq, cat_apply, top32_apply, row_peels, pay56_row]

theorem pay55_apply (a : FVec Ideal S256x16 .f32) (r : Fin 256) (k : Fin 16) : k0_pay55 a (ix3 0 r k) = a (ix2 r k) := by
  pointwise [k0_pay55]

/-! ## Slabs -/

/-- A slab's entry is the staged block's. -/
theorem slab_apply (X : (cc0_stg0_0 : Ref sig .tc).ty.Contents (Elt Ideal)) (off : Fin 2 → ℕ)
    (h : ∀ a, off a + S256x128.size a ≤ S512x4096.size a) (r : Fin 256) (l : Fin 128) (p : Fin 512) (q : Fin 4096)
    (hp : p.val = off 0 + r.val) (hq : q.val = off 1 + l.val) : slab X off h (ix2 r l) = X (ix2 p q) := by
  show X _ = X _
  congr 1
  funext a
  match a with
  | ⟨0, _⟩ => exact Fin.ext (show off 0 + 1 * r.val = p.val by omega)
  | ⟨1, _⟩ => exact Fin.ext (show off 1 + 1 * l.val = q.val by omega)

/-- Slab `n` of device `d`'s rows: rows `256 (d / 2) …`, columns `128 n …`. -/
theorem slabs_apply (d : Dev nD) (X : (cc0_stg0_0 : Ref sig .tc).ty.Contents (Elt Ideal)) (n : Fin 32) (r : Fin 256) (l : Fin 128)
    (p : Fin 512) (q : Fin 4096) (hp : p.val = 256 * (d.val / 2) + r.val) (hq : q.val = 128 * n.val + l.val) :
    slabs d X n (ix2 r l) = X (ix2 p q) := by
  fin_cases n
  all_goals
    refine slab_apply X _ _ r l p q ?_ ?_
    all_goals
      simp only [k0_off1_eq, k0_off2_eq, k0_off3_eq, k0_off4_eq, k0_off5_eq, k0_off6_eq, k0_off7_eq, k0_off8_eq, k0_off9_eq,
        k0_off10_eq, k0_off11_eq, k0_off12_eq, k0_off13_eq, k0_off14_eq, k0_off15_eq, k0_off16_eq, k0_off17_eq, k0_off18_eq,
        k0_off19_eq, k0_off20_eq, k0_off21_eq, k0_off22_eq, k0_off23_eq, k0_off24_eq, k0_off25_eq, k0_off26_eq, k0_off27_eq,
        k0_off28_eq, k0_off29_eq, k0_off30_eq, k0_off31_eq, k0_off32_eq]
      first | exact hp | exact hq

end Cert.TopK

end
-- ==== Proof.Row.lean ====
/-
One row of the problem, over the extended reals and without any program. The row's entries are `u y l n`: half `y` of the
columns, slab `n < 32` of that half, lane `l < 128`; four slabs make a group. Where the row is separated at place `j`
(`Sep`), the two-per-lane candidates of the halves hold its `j + 1` greatest values (`cand_has`), and the `j`-th maximum
taken of both halves' candidates is the `j`-th greatest value (`merged`).
-/
module

public import proofs.«01_k».proof.Proof.Columns

@[expose] public section

noncomputable section

namespace Cert.TopK.Row

open Cert.TopK.Extract

/-- The values `s 0 > … > s j` are those of the row at or above `s j`; a value above `s j` stands once in a lane; two entries
    at or above `s j` never share a group and lane, and three never share a half and lane. -/
structure Sep (s : ℕ → EReal) (j : ℕ) (u : Fin 2 → Fin 128 → ℕ → EReal) : Prop where
  strict : ∀ b b', b < b' → b' ≤ j → s b' < s b
  has : ∀ b, b ≤ j → ∃ y l n, n < 32 ∧ u y l n = s b
  only : ∀ y l n, n < 32 → s j ≤ u y l n → ∃ b, b ≤ j ∧ u y l n = s b
  once : ∀ y l n n', n < 32 → n' < 32 → u y l n = u y l n' → s j < u y l n → n = n'
  cell : ∀ y l n n', n < 32 → n' < 32 → n / 4 = n' / 4 → s j ≤ u y l n → s j ≤ u y l n' → n = n'
  lane : ∀ y l n n' n'', n < 32 → n' < 32 → n'' < 32 → n / 4 ≠ n' / 4 → n / 4 ≠ n'' / 4 → n' / 4 ≠ n'' / 4 →
    s j ≤ u y l n → s j ≤ u y l n' → s j ≤ u y l n'' → False

/-- A group's maximum is one of its entries. -/
theorem grp_mem (v : ℕ → EReal) (g : ℕ) (hg : g < 8) : ∃ n, n < 32 ∧ n / 4 = g ∧ grp v g = v n := by
  have h := max_choice (max (max (v (4 * g)) (v (4 * g + 1))) (v (4 * g + 2))) (v (4 * g + 3))
  have h' := max_choice (max (v (4 * g)) (v (4 * g + 1))) (v (4 * g + 2))
  have h'' := max_choice (v (4 * g)) (v (4 * g + 1))
  unfold grp
  rcases h with h | h
  · rcases h' with h' | h'
    · rcases h'' with h'' | h''
      · exact ⟨4 * g, by omega, by omega, by rw [h, h', h'']⟩
      · exact ⟨4 * g + 1, by omega, by omega, by rw [h, h', h'']⟩
    · exact ⟨4 * g + 2, by omega, by omega, by rw [h, h']⟩
  · exact ⟨4 * g + 3, by omega, by omega, by rw [h]⟩

/-- A group's maximum bounds its entries. -/
theorem le_grp (v : ℕ → EReal) (n : ℕ) : v n ≤ grp v (n / 4) := by
  have h : n % 4 = 0 ∨ n % 4 = 1 ∨ n % 4 = 2 ∨ n % 4 = 3 := by omega
  unfold grp
  rcases h with h | h | h | h
  · rw [show 4 * (n / 4) = n by omega]
    exact (le_max_left _ _).trans ((le_max_left _ _).trans (le_max_left _ _))
  · rw [show 4 * (n / 4) + 1 = n by omega]
    exact (le_max_right _ _).trans ((le_max_left _ _).trans (le_max_left _ _))
  · rw [show 4 * (n / 4) + 2 = n by omega]
    exact (le_max_right _ _).trans (le_max_left _ _)
  · rw [show 4 * (n / 4) + 3 = n by omega]
    exact le_max_right _ _

/-- The (greatest, second greatest) group maxima of half `y`, lane by lane. -/
def lanes (u : Fin 2 → Fin 128 → ℕ → EReal) (y : Fin 2) : (Fin 128 → EReal) × (Fin 128 → EReal) :=
  (fun l => (two (grp (u y l)) 6).1, fun l => (two (grp (u y l)) 6).2)

/-- Candidate `k` of half `y`. -/
def cnd (u : Fin 2 → Fin 128 → ℕ → EReal) (y : Fin 2) (k : ℕ) : EReal := mx (swaps (lanes u y) k).1

variable {s : ℕ → EReal} {j : ℕ} {u : Fin 2 → Fin 128 → ℕ → EReal}

theorem Sep.bot_lt (h : Sep s j u) : ⊥ < s j := by
  refine bot_lt_iff_ne_bot.mpr fun e => ?_
  have := h.cell 0 0 0 1 (by omega) (by omega) (by omega) (e ▸ bot_le) (e ▸ bot_le)
  omega

/-- The greatest group maximum of a lane is an entry of it, and so is the second. -/
theorem lanes_fst (u : Fin 2 → Fin 128 → ℕ → EReal) (y : Fin 2) (l : Fin 128) : ∃ n, n < 32 ∧ (lanes u y).1 l = u y l n := by
  obtain ⟨g, k, hg, hk, -, h1, -⟩ := two_spec (grp (u y l)) 6
  obtain ⟨n, hn, -, e⟩ := grp_mem (u y l) g hg
  exact ⟨n, hn, h1.trans e⟩

theorem lanes_snd (u : Fin 2 → Fin 128 → ℕ → EReal) (y : Fin 2) (l : Fin 128) : ∃ n, n < 32 ∧ (lanes u y).2 l = u y l n := by
  obtain ⟨g, k, hg, hk, -, -, h2, -⟩ := two_spec (grp (u y l)) 6
  obtain ⟨n, hn, -, e⟩ := grp_mem (u y l) k hk
  exact ⟨n, hn, h2.trans e⟩

/-- Every candidate is `⊥` or an entry of its half. -/
theorem cnd_mem (u : Fin 2 → Fin 128 → ℕ → EReal) (y : Fin 2) (k : ℕ) :
    cnd u y k = ⊥ ∨ ∃ l n, n < 32 ∧ cnd u y k = u y l n :=
  mx_swaps_mem (P := fun v => v = ⊥ ∨ ∃ l n, n < 32 ∧ v = u y l n) (Or.inl rfl)
    (fun l => Or.inr ⟨l, lanes_fst u y l⟩) (fun l => Or.inr ⟨l, lanes_snd u y l⟩) k

/-- An entry at or above `s j` is the greatest or second greatest group maximum of its lane. -/
theorem Sep.keeps (h : Sep s j u) (y : Fin 2) (l : Fin 128) (n : ℕ) (hn : n < 32) (hv : s j ≤ u y l n) :
    (lanes u y).1 l = u y l n ∨ (lanes u y).2 l = u y l n := by
  obtain ⟨g, k, hg, hk, hne, h1, h2, hle, hrest⟩ := two_spec (grp (u y l)) 6
  have hN : n / 4 < 8 := by omega
  obtain ⟨n', hn', hg', e'⟩ := grp_mem (u y l) (n / 4) hN
  have hv' : s j ≤ grp (u y l) (n / 4) := hv.trans (le_grp (u y l) n)
  have en : n = n' := h.cell y l n n' hn hn' hg'.symm hv (e' ▸ hv')
  have eg : grp (u y l) (n / 4) = u y l n := by rw [e', ← en]
  by_cases hig : n / 4 = g
  · left; show (two (grp (u y l)) 6).1 = _; rw [h1, ← hig]; exact eg
  by_cases hik : n / 4 = k
  · right; show (two (grp (u y l)) 6).2 = _; rw [h2, ← hik]; exact eg
  exfalso
  have hsnd : s j ≤ (two (grp (u y l)) 6).2 := hv'.trans (hrest (n / 4) hN hig hik)
  have hfst : s j ≤ (two (grp (u y l)) 6).1 := hsnd.trans hle
  obtain ⟨a, ha, hag, ea⟩ := grp_mem (u y l) g hg
  obtain ⟨b, hb, hbk, eb⟩ := grp_mem (u y l) k hk
  rw [h1, ea] at hfst
  rw [h2, eb] at hsnd
  exact h.lane y l n a b hn ha hb (by omega) (by omega) (by omega) hv hfst hsnd

/-- The values at or above `s j` that half `y`'s lanes keep. -/
def kept (s : ℕ → EReal) (j : ℕ) (u : Fin 2 → Fin 128 → ℕ → EReal) (y : Fin 2) : Finset EReal :=
  (Finset.univ.image (lanes u y).1 ∪ Finset.univ.image (lanes u y).2).filter fun v => s j ≤ v

theorem Sep.held (h : Sep s j u) (y : Fin 2) : Held (s j) (kept s j u y) (lanes u y) where
  le l := by
    obtain ⟨g, k, hg, hk, hne, h1, h2, hle, -⟩ := two_spec (grp (u y l)) 6
    exact hle
  tie l e := by
    obtain ⟨g, k, hg, hk, hne, h1, h2, hle, -⟩ := two_spec (grp (u y l)) 6
    obtain ⟨a, ha, hag, ea⟩ := grp_mem (u y l) g hg
    obtain ⟨b, hb, hbk, eb⟩ := grp_mem (u y l) k hk
    refine not_lt.mp fun hlt => ?_
    have e1 : (lanes u y).1 l = u y l a := h1.trans ea
    have e2 : (lanes u y).2 l = u y l b := h2.trans eb
    have := h.once y l a b ha hb (by rw [← e1, ← e2, e]) (by rw [← e1]; exact hlt)
    omega
  has v hv := by
    obtain ⟨hm, -⟩ := Finset.mem_filter.mp hv
    rcases Finset.mem_union.mp hm with hm | hm
    · obtain ⟨l, -, e⟩ := Finset.mem_image.mp hm; exact ⟨l, Or.inl e⟩
    · obtain ⟨l, -, e⟩ := Finset.mem_image.mp hm; exact ⟨l, Or.inr e⟩
  only1 l hl := Finset.mem_filter.mpr ⟨Finset.mem_union_left _ (Finset.mem_image_of_mem _ (Finset.mem_univ l)), hl⟩
  only2 l hl := Finset.mem_filter.mpr ⟨Finset.mem_union_right _ (Finset.mem_image_of_mem _ (Finset.mem_univ l)), hl⟩
  above v hv := (Finset.mem_filter.mp hv).2

theorem Sep.card_kept (h : Sep s j u) (y : Fin 2) : (kept s j u y).card ≤ j + 1 := by
  have hsub : kept s j u y ⊆ (Finset.range (j + 1)).image s := fun v hv => by
    obtain ⟨l, hl⟩ := (h.held y).has v hv
    have ht := (h.held y).above v hv
    have : ∃ n, n < 32 ∧ v = u y l n := by
      rcases hl with hl | hl
      · obtain ⟨n, hn, e⟩ := lanes_fst u y l; exact ⟨n, hn, hl.symm.trans e⟩
      · obtain ⟨n, hn, e⟩ := lanes_snd u y l; exact ⟨n, hn, hl.symm.trans e⟩
    obtain ⟨n, hn, e⟩ := this
    obtain ⟨b, hb, eb⟩ := h.only y l n hn (e ▸ ht)
    exact Finset.mem_image.mpr ⟨b, Finset.mem_range.mpr (by omega), by rw [e, eb]⟩
  exact (Finset.card_le_card hsub).trans (Finset.card_image_le.trans (by rw [Finset.card_range]))

/-- Every entry of half `y` at or above `s j` is among its first sixteen candidates. -/
theorem cand_has (h : Sep s j u) (hj : j < 16) (y : Fin 2) (l : Fin 128) (n : ℕ) (hn : n < 32) (hv : s j ≤ u y l n) :
    ∃ k, k < 16 ∧ cnd u y k = u y l n := by
  have hR : u y l n ∈ kept s j u y := by
    rcases h.keeps y l n hn hv with e | e
    · exact e ▸ (h.held y).only1 l (e ▸ hv)
    · exact e ▸ (h.held y).only2 l (e ▸ hv)
  obtain ⟨k, hk, e⟩ := (h.held y).listed h.bot_lt 16 _ _ ((h.card_kept y).trans (show j + 1 ≤ 16 by omega)) _ hR
  exact ⟨k, hk, e⟩

theorem other_half : ∀ y' y : Fin 2, y' ≠ y → y' = 1 - y := by decide

/-- The `j`-th maximum taken of both halves' candidates, in either order, is the `j`-th greatest value of the row. -/
theorem merged (h : Sep s j u) (hj : j < 16) (y : Fin 2) (c : Fin 32 → EReal)
    (hc0 : ∀ k : Fin 32, k.val < 16 → c k = cnd u y k.val) (hc1 : ∀ k : Fin 32, 16 ≤ k.val → c k = cnd u (1 - y) (k.val - 16)) :
    mx (peels c j) = s j := by
  refine mx_peels (s := s) (j := j) ?_ h.strict h.bot_lt j le_rfl
  constructor
  · intro b _ hbj
    have hle : s j ≤ s b := by
      rcases hbj.eq_or_lt with e | e
      · rw [e]
      · exact (h.strict b j e le_rfl).le
    obtain ⟨y', l, n, hn, e⟩ := h.has b hbj
    obtain ⟨k, hk, ek⟩ := cand_has h hj y' l n hn (e ▸ hle)
    by_cases hy : y' = y
    · subst hy
      exact ⟨⟨k, by omega⟩, by rw [hc0 ⟨k, by omega⟩ hk, ek, e]⟩
    · have hy' : y' = 1 - y := other_half y' y hy
      subst hy'
      refine ⟨⟨k + 16, by omega⟩, ?_⟩
      rw [hc1 ⟨k + 16, by omega⟩ (by show 16 ≤ k + 16; omega)]
      show cnd u (1 - y) (k + 16 - 16) = s b
      rw [Nat.add_sub_cancel, ek, e]
  · intro i hi
    have hm : ∃ y' k, c i = cnd u y' k := by
      by_cases hk : i.val < 16
      · exact ⟨y, i.val, hc0 i hk⟩
      · exact ⟨1 - y, i.val - 16, hc1 i (by omega)⟩
    obtain ⟨y', k, e⟩ := hm
    rcases cnd_mem u y' k with eb | ⟨l, n, hn, en⟩
    · exact absurd (h.bot_lt) (not_lt.mpr ((e.trans eb) ▸ hi))
    · obtain ⟨b, hb, e'⟩ := h.only y' l n hn (by rw [← en, ← e]; exact hi)
      exact ⟨b, Nat.zero_le b, hb, by rw [e, en, e']⟩

end Cert.TopK.Row

end
-- ==== Proof.Mask.lean ====
/-
What the mask `separated` says where it is one. Its parts are the strictness bits (`strictAt_apply`), the counts per cell of
entries that reach the `j`-th greatest (`cells_apply`) and the counts per lane (`laneCount_apply`). At an element `(r, j)`
where the mask is one, row `r` is separated at place `j` (`sep`), its values in order being those along the reference's
sorting permutation.
-/
module

public import proofs.«01_k».proof.Proof.Refer
public import proofs.«01_k».proof.Proof.Row
public import Idealize.ShloMosaic.Lib.ValueIdxRank6

@[expose] public section

noncomputable section

namespace Cert.TopK.Mask

open Cert.On_separated
open Idealize.ShloMosaic Idealize.ShloMosaic.StableHlo

variable [Cert.On_separated.Facts]

/-- The mask's strictness bits: entry `k` of the result's row exceeds the next, or `k` is not below `j`. -/
def strictAt (T : FVec Ideal S512x16 .f32) : IVec S512x16x15 1 :=
  ori (broadcastInDim S512x16x15 ![0, 1, 2] Facts.bcast_S512x1x15_S512x16x15_0_1_2
      (broadcastInDim S512x1x15 ![0, 2] Facts.bcast_S512x15_S512x1x15_0_2
        (cmpf .ogt (extractStridedSlice S512x15 ![0, 0] T Facts.slices_S512x16_S512x15_0_0)
          (extractStridedSlice S512x15 ![0, 1] T Facts.slices_S512x16_S512x15_0_1))))
    (broadcastInDim S512x16x15 ![0, 1, 2] Facts.bcast_S1x16x15_S512x16x15_0_1_2
      (noti (cmpi .slt
        (broadcastInDim S1x16x15 ![0, 1, 2] Facts.bcast_S1x1x15_S1x16x15_0_1_2
          (broadcastInDim S1x1x15 ![2] Facts.bcast_S15_S1x1x15_2 (iotaInDim S15 32 0)))
        (broadcastInDim S1x16x15 ![0, 1, 2] Facts.bcast_S1x16x1_S1x16x15_0_1_2
          (broadcastInDim S1x16x1 ![1] Facts.bcast_S16_S1x16x1_1 (iotaInDim S16 32 0))))))

/-- The mask's comparison of each entry with the `j`-th greatest. -/
def hits (X : FVec Ideal S512x8192 .f32) (T : FVec Ideal S512x16 .f32) : IVec S512x16x2x8x4x128 1 :=
  cmpf .oge
    (broadcastInDim S512x16x2x8x4x128 ![0, 1, 2, 3, 4, 5] Facts.bcast_S512x1x2x8x4x128_S512x16x2x8x4x128_0_1_2_3_4_5
      (shapeCast S512x1x2x8x4x128 X Facts.shapeCasts_S512x8192_S512x1x2x8x4x128))
    (broadcastInDim S512x16x2x8x4x128 ![0, 1, 2, 3, 4, 5] Facts.bcast_S512x16x1x1x1x1_S512x16x2x8x4x128_0_1_2_3_4_5
      (shapeCast S512x16x1x1x1x1 T Facts.shapeCasts_S512x16_S512x16x1x1x1x1))

/-- The mask's count per cell. -/
def cells (X : FVec Ideal S512x8192 .f32) (T : FVec Ideal S512x16 .f32) : IVec S512x16x2x8x128 32 :=
  Host.reduce IntOp.addi (extui 32 (hits X T) Facts.natLt_1_32) (constantI S_ 32 0#32)
    Facts.reducesTo_S512x16x2x8x4x128_S512x16x2x8x128_d4 Facts.h_S_

/-- The mask's count per lane. -/
def laneCount (X : FVec Ideal S512x8192 .f32) (T : FVec Ideal S512x16 .f32) : IVec S512x16x2x128 32 :=
  Host.reduce IntOp.addi (cells X T) (constantI S_ 32 0#32) Facts.reducesTo_S512x16x2x8x128_S512x16x2x128_d3 Facts.h_S_

/-- The mask is one where every strictness bit is, every cell's count is at most one and every lane's at most two. -/
theorem fn_eq (X : FVec Ideal S512x8192 .f32) : fn (F := Ideal) X
    = andi (andi (Host.reduce IntOp.andi (strictAt (Refer.top X)) (constantI S_ 1 1#1) Facts.reducesTo_S512x16x15_S512x16_d2 Facts.h_S_)
        (Host.reduce IntOp.andi (cmpi .sle (cells X (Refer.top X)) (broadcastInDim S512x16x2x8x128 ![] Facts.bcast_S_S512x16x2x8x128 (constantI S_ 32 1#32)))
          (constantI S_ 1 1#1) Facts.reducesTo_S512x16x2x8x128_S512x16_d2_3_4 Facts.h_S_))
      (Host.reduce IntOp.andi (cmpi .sle (laneCount X (Refer.top X)) (broadcastInDim S512x16x2x128 ![] Facts.bcast_S_S512x16x2x128 (constantI S_ 32 2#32)))
          (constantI S_ 1 1#1) Facts.reducesTo_S512x16x2x128_S512x16_d2_3 Facts.h_S_) := rfl

theorem drop3 (r : Fin 512) (j : Fin 16) (k : Fin 15) : Facts.reducesTo_S512x16x15_S512x16_d2.drop (ix3 r j k) = ix2 r j := by
  funext d; match d with
  | ⟨0, _⟩ => rfl
  | ⟨1, _⟩ => rfl
theorem drop5 (r : Fin 512) (j : Fin 16) (y : Fin 2) (g : Fin 8) (l : Fin 128) :
    Facts.reducesTo_S512x16x2x8x128_S512x16_d2_3_4.drop (ix5 r j y g l) = ix2 r j := by
  funext d; match d with
  | ⟨0, _⟩ => rfl
  | ⟨1, _⟩ => rfl
theorem drop4 (r : Fin 512) (j : Fin 16) (y : Fin 2) (l : Fin 128) :
    Facts.reducesTo_S512x16x2x128_S512x16_d2_3.drop (ix4 r j y l) = ix2 r j := by
  funext d; match d with
  | ⟨0, _⟩ => rfl
  | ⟨1, _⟩ => rfl

/-- The comparison at an index, the entry's column written out. -/
theorem hits_apply (X : FVec Ideal S512x8192 .f32) (T : FVec Ideal S512x16 .f32) (r : Fin 512) (j : Fin 16) (y : Fin 2) (g : Fin 8)
    (q : Fin 4) (l : Fin 128) :
    hits X T (ix6 r j y g q l) = BitVec.ofBool (decide (T (ix2 r j) ≤ X (ix2 r ⟨y.val * 4096 + g.val * 512 + q.val * 128 + l.val, by omega⟩))) := by
  pointwise [hits]

theorem hits_le (X : FVec Ideal S512x8192 .f32) (T : FVec Ideal S512x16 .f32) (i : S512x16x2x8x4x128.Idx) :
    ((hits X T i).setWidth 32).toNat ≤ 1 := by
  rw [Predicate.toNat_setWidth_bit]; split <;> omega

theorem drop6_iff (r : Fin 512) (j : Fin 16) (y : Fin 2) (g : Fin 8) (l : Fin 128) (i : S512x16x2x8x4x128.Idx) :
    Facts.reducesTo_S512x16x2x8x4x128_S512x16x2x8x128_d4.drop i = ix5 r j y g l ↔ i = ix6 r j y g (i 4) l := by
  constructor
  · intro e
    funext d
    match d with
    | ⟨0, _⟩ => exact Fin.ext (congrArg (fun u : S512x16x2x8x128.Idx => (u 0).val) e)
    | ⟨1, _⟩ => exact Fin.ext (congrArg (fun u : S512x16x2x8x128.Idx => (u 1).val) e)
    | ⟨2, _⟩ => exact Fin.ext (congrArg (fun u : S512x16x2x8x128.Idx => (u 2).val) e)
    | ⟨3, _⟩ => exact Fin.ext (congrArg (fun u : S512x16x2x8x128.Idx => (u 3).val) e)
    | ⟨4, _⟩ => rfl
    | ⟨5, _⟩ => exact Fin.ext (congrArg (fun u : S512x16x2x8x128.Idx => (u 4).val) e)
  · intro e
    rw [e]
    funext d
    match d with
    | ⟨0, _⟩ => rfl
    | ⟨1, _⟩ => rfl
    | ⟨2, _⟩ => rfl
    | ⟨3, _⟩ => rfl
    | ⟨4, _⟩ => rfl

/-- A cell's count is the number of its four entries that reach the `j`-th greatest. -/
theorem cells_apply (X : FVec Ideal S512x8192 .f32) (T : FVec Ideal S512x16 .f32) (r : Fin 512) (j : Fin 16) (y : Fin 2) (g : Fin 8)
    (l : Fin 128) :
    (cells X T (ix5 r j y g l)).toNat = ∑ q, ((hits X T (ix6 r j y g q l)).setWidth 32).toNat := by
  have hs : ∑ i ∈ Finset.univ.filter (fun i => Facts.reducesTo_S512x16x2x8x4x128_S512x16x2x8x128_d4.drop i = ix5 r j y g l),
      ((hits X T i).setWidth 32).toNat = ∑ q, ((hits X T (ix6 r j y g q l)).setWidth 32).toNat := by
    refine Finset.sum_bij' (fun i _ => i 4) (fun q _ => ix6 r j y g q l) (fun _ _ => Finset.mem_univ _)
      (fun q _ => Finset.mem_filter.2 ⟨Finset.mem_univ _, (drop6_iff ..).2 rfl⟩)
      (fun i hi => ((drop6_iff ..).1 (Finset.mem_filter.1 hi).2).symm) (fun _ _ => rfl) ?_
    intro i hi
    exact congrArg (fun i => ((hits X T i).setWidth 32).toNat) ((drop6_iff ..).1 (Finset.mem_filter.1 hi).2)
  pointwise [cells]
  refine (Predicate.toNat_fold_addi _ _ ?_).trans hs
  rw [hs]
  refine lt_of_le_of_lt (Finset.sum_le_card_nsmul _ _ 1 fun q _ => hits_le X T _) (by decide)

/-- A lane's count is the sum of its eight cells' counts. -/
theorem laneCount_apply (X : FVec Ideal S512x8192 .f32) (T : FVec Ideal S512x16 .f32) (r : Fin 512) (j : Fin 16) (y : Fin 2)
    (l : Fin 128) :
    (laneCount X T (ix4 r j y l)).toNat = ∑ g, (cells X T (ix5 r j y g l)).toNat := by
  pointwise [laneCount]
  refine Predicate.toNat_fold_addi _ _ ?_
  refine lt_of_le_of_lt (Finset.sum_le_card_nsmul _ _ 4 fun g _ => ?_) (by decide)
  rw [cells_apply]
  exact (Finset.sum_le_card_nsmul _ _ 1 fun q _ => hits_le X T _).trans (by decide)

/-- The strictness bit at `(r, j, k)`, `k < j`, says the `k`-th entry of the result's row exceeds the next. -/
theorem strictAt_apply (T : FVec Ideal S512x16 .f32) (r : Fin 512) (j : Fin 16) (k : Fin 15) (h : strictAt T (ix3 r j k) = 1#1) (hk : k.val < j.val) :
    T (ix2 r ⟨1 + k.val, by omega⟩) < T (ix2 r ⟨k.val, by omega⟩) := by
  revert h
  pointwise [strictAt]
  have : IntOp.cmpi CmpIPredicate.slt (BitVec.ofNat 32 k.val) (BitVec.ofNat 32 j.val) = 1#1 := by
    rw [Predicate.slt_iff_toNat] <;> simp only [BitVec.toNat_ofNat] <;> omega
  rw [this]
  by_cases hc : T (ix2 r ⟨1 + k.val, by omega⟩) < T (ix2 r ⟨k.val, by omega⟩)
  · exact fun _ => hc
  · intro h
    rw [decide_eq_false hc] at h
    exact absurd h (by decide)

/-- Entry (half, lane, slab) of row `r`. -/
def entry (X : FVec Ideal S512x8192 .f32) (r : Fin 512) (y : Fin 2) (l : Fin 128) (n : ℕ) : EReal :=
  X (ix2 r ⟨4096 * y.val + 128 * (n % 32) + l.val, by omega⟩)

/-- The `b`-th greatest value of row `r`. -/
def ranked (X : FVec Ideal S512x8192 .f32) (r : Fin 512) (b : ℕ) : EReal :=
  X (ix2 r (Refer.perm X r ⟨b % 8192, by omega⟩))

theorem ranked_eq_top (X : FVec Ideal S512x8192 .f32) (r : Fin 512) (b : ℕ) (hb : b < 16) :
    ranked X r b = Refer.top X (ix2 r ⟨b, hb⟩) := by
  rw [Refer.top_apply]
  unfold ranked
  congr 3
  exact Fin.ext (Nat.mod_eq_of_lt (by omega))

theorem two_le {n : ℕ} (f : Fin n → ℕ) (a b : Fin n) (hab : a ≠ b) (ha : 1 ≤ f a) (hb : 1 ≤ f b) : 2 ≤ ∑ i, f i := by
  have h := Finset.sum_le_sum_of_subset (f := f) (Finset.subset_univ {a, b})
  rw [Finset.sum_pair hab] at h
  omega

theorem three_le {n : ℕ} (f : Fin n → ℕ) (a b c : Fin n) (hab : a ≠ b) (hac : a ≠ c) (hbc : b ≠ c) (ha : 1 ≤ f a) (hb : 1 ≤ f b)
    (hc : 1 ≤ f c) : 3 ≤ ∑ i, f i := by
  have h := Finset.sum_le_sum_of_subset (f := f) (Finset.subset_univ {a, b, c})
  rw [Finset.sum_insert (by simp [hab, hac]), Finset.sum_pair hbc] at h
  omega

/-- An entry that reaches the `j`-th greatest sets its comparison bit. -/
theorem hit_of_le (X : FVec Ideal S512x8192 .f32) (r : Fin 512) (j : Fin 16) (y : Fin 2) (l : Fin 128) (n : ℕ) (hn : n < 32)
    (h : ranked X r j.val ≤ entry X r y l n) :
    1 ≤ ((hits X (Refer.top X) (ix6 r j y ⟨n / 4, by omega⟩ ⟨n % 4, by omega⟩ l)).setWidth 32).toNat := by
  have e : entry X r y l n = X (ix2 r ⟨y.val * 4096 + n / 4 * 512 + n % 4 * 128 + l.val, by omega⟩) := by
    unfold entry
    congr 2
    exact Fin.ext (by show 4096 * y.val + 128 * (n % 32) + l.val = y.val * 4096 + n / 4 * 512 + n % 4 * 128 + l.val; omega)
  rw [hits_apply, Predicate.toNat_setWidth_bit]
  rw [ranked_eq_top X r j.val j.isLt, e] at h
  rw [decide_eq_true h]
  decide

theorem cell_of_le (X : FVec Ideal S512x8192 .f32) (r : Fin 512) (j : Fin 16) (y : Fin 2) (l : Fin 128) (n : ℕ) (hn : n < 32)
    (h : ranked X r j.val ≤ entry X r y l n) : 1 ≤ (cells X (Refer.top X) (ix5 r j y ⟨n / 4, by omega⟩ l)).toNat := by
  rw [cells_apply]
  exact (hit_of_le X r j y l n hn h).trans
    (Finset.single_le_sum (f := fun q => ((hits X (Refer.top X) (ix6 r j y ⟨n / 4, by omega⟩ q l)).setWidth 32).toNat)
      (fun _ _ => Nat.zero_le _) (Finset.mem_univ _))

/-- Every place of the row is an entry, and every entry has a place in the sorted order. -/
theorem entry_ranked (X : FVec Ideal S512x8192 .f32) (r : Fin 512) (y : Fin 2) (l : Fin 128) (n : ℕ) :
    ∃ b : Fin 8192, (Refer.perm X r b).val = 4096 * y.val + 128 * (n % 32) + l.val ∧ entry X r y l n = ranked X r b.val := by
  obtain ⟨b, hb⟩ := Refer.perm_surjective X r ⟨4096 * y.val + 128 * (n % 32) + l.val, by omega⟩
  refine ⟨b, congrArg Fin.val hb, ?_⟩
  unfold entry ranked
  rw [← hb]
  exact congrArg (fun b => X (ix2 r (Refer.perm X r b))) (Fin.ext (Nat.mod_eq_of_lt b.isLt).symm)

theorem ranked_antitone (X : FVec Ideal S512x8192 .f32) (r : Fin 512) {a b : ℕ} (hab : a ≤ b) (hb : b < 8192) :
    ranked X r b ≤ ranked X r a := by
  refine Refer.perm_antitone X r ?_
  show a % 8192 ≤ b % 8192
  rw [Nat.mod_eq_of_lt hb, Nat.mod_eq_of_lt (by omega)]
  exact hab

/-- Where the mask is one at `(r, j)`, row `r` is separated at place `j`. -/
theorem sep (X : FVec Ideal S512x8192 .f32) (r : Fin 512) (j : Fin 16) (h : fn (F := Ideal) X (ix2 r j) = 1#1) :
    Row.Sep (ranked X r) j.val (entry X r) := by
  rw [fn_eq] at h
  obtain ⟨h, hl⟩ := IntOp.andi_eq_one.1 h
  obtain ⟨ha, hc⟩ := IntOp.andi_eq_one.1 h
  have hstep : ∀ k, k < j.val → ranked X r (k + 1) < ranked X r k := fun k hk => by
    have := strictAt_apply (Refer.top X) r j ⟨k, by omega⟩ (Host.reduce_andi_eq_one _ _ _ _ _ ha _ (drop3 ..)) hk
    rw [ranked_eq_top X r k (by omega), ranked_eq_top X r (k + 1) (by omega)]
    have e : (⟨1 + k, by omega⟩ : Fin 16) = ⟨k + 1, by omega⟩ := Fin.ext (by show 1 + k = k + 1; omega)
    rw [← e]
    exact this
  have hstrict : ∀ b b', b < b' → b' ≤ j.val → ranked X r b' < ranked X r b := by
    intro b b' hbb
    induction b', hbb using Nat.le_induction with
    | base => exact fun hj => hstep b (by omega)
    | succ m hm ih => exact fun hj => (hstep m (by omega)).trans (ih (by omega))
  have hcell : ∀ y g l, (cells X (Refer.top X) (ix5 r j y g l)).toNat ≤ 1 := fun y g l => by
    have := Host.reduce_andi_eq_one _ _ _ _ _ hc _ (drop5 r j y g l)
    have hb : (cells X (Refer.top X) (ix5 r j y g l)).toNat < 2 ^ 31 := by
      rw [cells_apply]
      exact lt_of_le_of_lt (Finset.sum_le_card_nsmul _ _ 1 fun q _ => hits_le X _ _) (by decide)
    exact (Predicate.sle_iff_toNat hb (by decide : (1#32 : BitVec 32).toNat < 2 ^ 31)).1 this
  have hlane : ∀ y l, (laneCount X (Refer.top X) (ix4 r j y l)).toNat ≤ 2 := fun y l => by
    have := Host.reduce_andi_eq_one _ _ _ _ _ hl _ (drop4 r j y l)
    have hb : (laneCount X (Refer.top X) (ix4 r j y l)).toNat < 2 ^ 31 := by
      rw [laneCount_apply]
      exact lt_of_le_of_lt (Finset.sum_le_card_nsmul _ _ 1 fun g _ => hcell y g l) (by decide)
    exact (Predicate.sle_iff_toNat hb (by decide : (2#32 : BitVec 32).toNat < 2 ^ 31)).1 this
  have hlt : ∀ b : Fin 8192, ranked X r j.val < ranked X r b.val → b.val < j.val := fun b hb => by
    by_contra hn
    exact absurd (ranked_antitone X r (not_lt.1 hn) b.isLt) (not_le.2 hb)
  refine ⟨hstrict, fun b hb => ?_, fun y l n hn hle => ?_, fun y l n n' hn hn' he hgt => ?_, fun y l n n' hn hn' hg hle hle' => ?_,
    fun y l n n' n'' hn hn' hn'' hg hg' hg'' hle hle' hle'' => ?_⟩
  · have hp := (Refer.perm X r ⟨b % 8192, by omega⟩).isLt
    generalize hq : Refer.perm X r ⟨b % 8192, by omega⟩ = p at hp
    refine ⟨⟨p.val / 4096, by omega⟩, ⟨p.val % 128, by omega⟩, p.val % 4096 / 128, by omega, ?_⟩
    unfold entry ranked
    rw [hq]
    refine congrArg (fun p => X (ix2 r p)) ?_
    exact Fin.ext (by show 4096 * (p.val / 4096) + 128 * (p.val % 4096 / 128 % 32) + p.val % 128 = p.val; omega)
  · obtain ⟨b, -, e⟩ := entry_ranked X r y l n
    by_cases hb : b.val ≤ j.val
    · exact ⟨b.val, hb, e⟩
    · exact ⟨j.val, le_rfl, le_antisymm (e.le.trans (ranked_antitone X r (by omega) b.isLt)) hle⟩
  · obtain ⟨b, hp, e⟩ := entry_ranked X r y l n
    obtain ⟨b', hp', e'⟩ := entry_ranked X r y l n'
    by_contra hne
    have hbb : b ≠ b' := fun hbb => by
      rw [← hbb, hp] at hp'
      omega
    have h1 := hlt b (hgt.trans_eq e)
    have h2 := hlt b' (hgt.trans_eq (he.trans e'))
    have heq : ranked X r b.val = ranked X r b'.val := by rw [← e, ← e', he]
    rcases lt_or_gt_of_ne (fun hv => hbb (Fin.ext hv) : b.val ≠ b'.val) with hv | hv
    · exact absurd heq (hstrict _ _ hv (by omega)).ne'
    · exact absurd heq (hstrict _ _ hv (by omega)).ne
  · by_contra hne
    have h1 := hit_of_le X r j y l n hn hle
    have h2 := hit_of_le X r j y l n' hn' hle'
    have eg : (⟨n' / 4, by omega⟩ : Fin 8) = ⟨n / 4, by omega⟩ := Fin.ext hg.symm
    rw [eg] at h2
    have := two_le (fun q => ((hits X (Refer.top X) (ix6 r j y ⟨n / 4, by omega⟩ q l)).setWidth 32).toNat) ⟨n % 4, by omega⟩
      ⟨n' % 4, by omega⟩ (fun e => hne (by have := congrArg Fin.val e; dsimp only at this; omega)) h1 h2
    rw [← cells_apply] at this
    have := hcell y ⟨n / 4, by omega⟩ l
    omega
  · have := three_le (fun g => (cells X (Refer.top X) (ix5 r j y g l)).toNat) ⟨n / 4, by omega⟩ ⟨n' / 4, by omega⟩ ⟨n'' / 4, by omega⟩
      (fun e => hg (congrArg Fin.val e)) (fun e => hg' (congrArg Fin.val e)) (fun e => hg'' (congrArg Fin.val e))
      (cell_of_le X r j y l n hn hle) (cell_of_le X r j y l n' hn' hle') (cell_of_le X r j y l n'' hn'' hle'')
    rw [← laneCount_apply] at this
    have := hlane y l
    omega

end Cert.TopK.Mask

end
-- ==== Proof.Equation.lean ====
/-
The equation. When the devices' argument arrays are their column halves of one array `X`, device `d`'s candidates in local row
`r` are those of half `d % 2` of `X`'s row `256 (d / 2) + r` (`cand_apply`), and at every element where the mask is one the
result array of every device holds the reference's value (`out_eq_top`).
-/
module

public import proofs.«01_k».proof.Proof.Frames
public import proofs.«01_k».proof.Proof.Mask
public import Idealize.ShloMosaic.Lib.Layout

@[expose] public section

noncomputable section

namespace Cert.TopK

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Device `c`'s part of an array cut by columns over the mesh's second axis: columns `4096 (c % 2)` and up. -/
theorem block_apply (X : FVec Ideal Cert.On_separated.S512x8192 .f32) (c : Dev nD) (p : Fin 512) (q : Fin 4096) :
    (Layout.blockN ⟨2, ![512, 4096]⟩ ⟨2, ![512, 8192]⟩ (Layout.meshBlock [2, 2] ![[], [1]] c) X : (⟨2, ![512, 4096]⟩ : Shape).Idx → EReal) (ix2 p q)
      = X (ix2 p ⟨4096 * (c.val % 2) + q.val, by omega⟩) := by
  rw [Layout.blockN_apply]
  refine congrArg X ?_
  funext a
  apply Fin.ext
  rw [Layout.TilesN.idx_val]
  match a with
  | ⟨0, _⟩ =>
    show 0 * 512 + p.val = p.val
    omega
  | ⟨1, _⟩ =>
    have : Layout.meshLin [2, 2] c.val [1] = c.val % 2 := by
      fin_cases c <;> rfl
    show Layout.meshLin [2, 2] c.val [1] * 4096 + q.val = 4096 * (c.val % 2) + q.val
    rw [this]; omega

/-- The devices' arguments are their parts of `X`. -/
def Parts (X : FVec Ideal Cert.On_separated.S512x8192 .f32) : Prop :=
  ∀ c : Dev nD, m ((c : Thread nD τ).loc main_arg0)
    = Layout.blockN ⟨2, ![512, 4096]⟩ ⟨2, ![512, 8192]⟩ (Layout.meshBlock [2, 2] ![[], [1]] c) X

variable {m} {X : FVec Ideal Cert.On_separated.S512x8192 .f32}

/-- A lane of device `d`'s slabs is that lane of its half of the row. -/
theorem lane_eq (hX : Parts m X) (d : Dev nD) (r : Fin 256) (R : Fin 512) (hR : R.val = 256 * (d.val / 2) + r.val) (y : Fin 2)
    (hy : y.val = d.val % 2) (l : Fin 128) : lane (slabs d (xstg m ρ d)) r l = Mask.entry X R y l := by
  funext n
  unfold lane Mask.entry
  rw [slabs_apply d (xstg m ρ d) ⟨n % 32, Nat.mod_lt _ (by decide)⟩ r l R ⟨128 * (n % 32) + l.val, by omega⟩ hR rfl, xstg_eq, hX d,
    block_apply]
  refine congrArg (fun p => X (ix2 R p)) (Fin.ext ?_)
  show 4096 * (d.val % 2) + (128 * (n % 32) + l.val) = 4096 * y.val + 128 * (n % 32) + l.val
  omega

/-- Device `d`'s candidate `k` in local row `r` is candidate `k` of its half of the row. -/
theorem cand_apply (hX : Parts m X) (d : Dev nD) (r : Fin 256) (R : Fin 512) (hR : R.val = 256 * (d.val / 2) + r.val) (y : Fin 2)
    (hy : y.val = d.val % 2) (k : Fin 16) : cand m ρ d (ix3 0 r k) = Row.cnd (Mask.entry X R) y k.val := by
  unfold cand
  rw [pay55_apply, candOf_apply]
  unfold lanes2 Row.cnd Row.lanes
  simp only [lane_eq ρ hX d r R hR y hy]

variable [Cert.On_separated.Facts]

/-- The two devices that hold a row's halves give, in either merge, the row's greatest values. -/
theorem both_eq (hX : Parts m X) (d e : Dev nD) (r : Fin 256) (R : Fin 512) (j : Fin 16)
    (hd : R.val = 256 * (d.val / 2) + r.val) (he : R.val = 256 * (e.val / 2) + r.val) (hde : d.val % 2 + e.val % 2 = 1)
    (h : Cert.On_separated.fn (F := Ideal) X (ix2 R j) = 1#1) :
    Extract.mx (Extract.peels (both (cand m ρ d) (cand m ρ e) r) j) = Refer.top X (ix2 R j) := by
  rw [← Mask.ranked_eq_top X R j.val j.isLt]
  refine Row.merged (Mask.sep X R j h) j.isLt ⟨d.val % 2, Nat.mod_lt _ (by decide)⟩ _ (fun k hk => ?_) (fun k hk => ?_)
  · unfold both
    rw [dif_pos hk]
    exact cand_apply ρ hX d r R hd _ rfl ⟨k.val, hk⟩
  · unfold both
    rw [dif_neg (by omega)]
    refine cand_apply ρ hX e r R he _ ?_ ⟨k.val - 16, by omega⟩
    have : d.val % 2 = 0 ∨ d.val % 2 = 1 := by omega
    rcases this with hz | hz
    · rw [show (⟨d.val % 2, Nat.mod_lt _ (by decide)⟩ : Fin 2) = 0 from Fin.ext hz]
      show 1 = e.val % 2
      omega
    · rw [show (⟨d.val % 2, Nat.mod_lt _ (by decide)⟩ : Fin 2) = 1 from Fin.ext hz]
      show 0 = e.val % 2
      omega

/-- Where the devices beside `c` lie: peer 0 shares its rows, peers 1 and 2 hold the other rows. -/
theorem peers_val (c : Dev nD) : (peer 0 c).val / 2 = c.val / 2 ∧ c.val % 2 + (peer 0 c).val % 2 = 1
    ∧ (peer 1 c).val / 2 = 1 - c.val / 2 ∧ (peer 2 c).val / 2 = 1 - c.val / 2 ∧ (peer 1 c).val % 2 + (peer 2 c).val % 2 = 1 := by
  revert c; decide

/-- At an element where the mask is one, every device's result is the reference's. -/
theorem out_eq_top (hX : Parts m X) (c : Dev nD) (i : S512x16.Idx) (h : Cert.On_separated.fn (F := Ideal) X i = 1#1) :
    outAt m ρ c i = Refer.top X i := by
  obtain ⟨R, j, rfl⟩ : ∃ (R : Fin 512) (j : Fin 16), i = ix2 R j := ⟨i 0, i 1, by
    funext a; match a with
    | ⟨0, _⟩ => rfl
    | ⟨1, _⟩ => rfl⟩
  obtain ⟨h0, h0', h1, h2, h12⟩ := peers_val c
  have hc : c.val < 4 := c.isLt
  have hR := R.isLt
  have e : (fun | 0 => ⟨R.val % 256, Nat.mod_lt _ (by decide)⟩ | 1 => j : S256x16.Idx) = ix2 ⟨R.val % 256, Nat.mod_lt _ (by decide)⟩ j := by
    funext a; match a with
    | ⟨0, _⟩ => rfl
    | ⟨1, _⟩ => rfl
  unfold outAt outOf
  show (if R.val / 256 = c.val / 2 then mergeLocal _ _ (fun | 0 => ⟨R.val % 256, Nat.mod_lt _ (by decide)⟩ | 1 => j : S256x16.Idx)
    else mergeRemote _ _ (fun | 0 => ⟨R.val % 256, Nat.mod_lt _ (by decide)⟩ | 1 => j : S256x16.Idx)) = _
  rw [e]
  split
  · rename_i hb
    rw [mergeLocal_apply]
    exact both_eq ρ hX c (peer 0 c) _ R j (by show R.val = 256 * (c.val / 2) + R.val % 256; omega)
      (by show R.val = 256 * ((peer 0 c).val / 2) + R.val % 256; omega) h0' h
  · rename_i hb
    rw [mergeRemote_apply]
    exact both_eq ρ hX (peer 1 c) (peer 2 c) _ R j (by show R.val = 256 * ((peer 1 c).val / 2) + R.val % 256; omega)
      (by show R.val = 256 * ((peer 2 c).val / 2) + R.val % 256; omega) h12 h

end Cert.TopK

end
-- ==== Proof.Agree.lean ====
/-
The algebraic claim: from memories whose argument arrays agree as the claim's placement says, the program and the reference
both end, and at every element where the mask is one each device's result is the reference's.
-/
module

public import proofs.«01_k».proof.Proof.Equation

@[expose] public section

noncomputable section

namespace Cert.TopK

open Idealize.ShloMosaic Idealize.ShloMosaic.TcCoe Idealize.SL.Sem

variable [Cert.On_separated.Facts]

/-- The reference's run leaves the sorted rows' first sixteen entries in its result. -/
theorem reference_top (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c.tc : Thread Cert.ReferenceIdeal.nD Cert.ReferenceIdeal.τ).loc Cert.ReferenceIdeal.main_v3)
          = Refer.top (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0) :=
  (θ_run Cert.ReferenceIdeal.defs _ _).mono (fun _ h c => ⟨(h c).1.trans rfl, (h c).2⟩)
    (Cert.ReferenceIdeal.Value.run (F := Ideal) m' g')

/-- The claim. -/
theorem algebraic : Cert.algebraic_KernelIdeal_ReferenceIdeal_on_separated := by
  intro m g m' g' _ hX
  refine ⟨Refer.top (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨fun i hi => (congrFun (h c).1 i).trans (out_eq_top g hX c i hi), (h c).2⟩) (run_out (F := Ideal) m g)
  · exact (θ_run Cert.ReferenceIdeal.defs _ _).mono (fun _ h => ⟨fun i _ => congrFun (h 0).1 i, (h 0).2⟩) (reference_top m' g')

end Cert.TopK

end
-- ==== Proof.lean ====
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.On_separated

@[expose] public section

noncomputable section

namespace Cert.Proof

/-- The certificate: the three frames, the two readings of one text, and the agreement with the reference where the mask is one. -/
theorem claim : Cert.Claim :=
  ⟨Cert.Kernel.Gen.facts, Cert.KernelIdeal.Gen.facts, Cert.ReferenceIdeal.Gen.facts, Cert.On_separated.Gen.facts,
    Cert.TopK.frame_kernel, Cert.TopK.frame_kernelIdeal, Cert.TopK.frame_reference, trivial,
    letI := Cert.On_separated.Gen.facts; Cert.TopK.algebraic⟩

end Cert.Proof

end
